-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_queries [hPre_finite_queries : Cert.Pre_finite_queries.Facts] (m : (ℓ : Loc Cert.KernelIdeal.nD Cert.KernelIdeal.τ Cert.KernelIdeal.sig) → Buf (Elt Ideal) ℓ) : Prop :=
  ∀ c : Dev Cert.KernelIdeal.nD,
    (Cert.Pre_finite_queries.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_queries [hPre_finite_queries : Cert.Pre_finite_queries.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_queries.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_queries [hKernelIdeal : Cert.KernelIdeal.Facts] [hPre_finite_queries : Cert.Pre_finite_queries.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_queries m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_queries [hReferenceIdeal : Cert.ReferenceIdeal.Facts] [hPre_finite_queries : Cert.Pre_finite_queries.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_queries m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_finite_queries [hKernelIdeal : Cert.KernelIdeal.Facts] [hReferenceIdeal : Cert.ReferenceIdeal.Facts] [hPre_finite_queries : Cert.Pre_finite_queries.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_queries m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_queries : Cert.Pre_finite_queries.Facts),
    quiescent_Kernel (hKernel := hKernel)
    ∧ quiescent_KernelIdeal (hKernelIdeal := hKernelIdeal)
    ∧ quiescent_KernelIdeal_pre_finite_queries (hKernelIdeal := hKernelIdeal) (hPre_finite_queries := hPre_finite_queries)
    ∧ quiescent_ReferenceIdeal (hReferenceIdeal := hReferenceIdeal)
    ∧ quiescent_ReferenceIdeal_pre_finite_queries (hReferenceIdeal := hReferenceIdeal) (hPre_finite_queries := hPre_finite_queries)
    ∧ preserves_Kernel_KernelIdeal
    ∧ algebraic_KernelIdeal_ReferenceIdeal_pre_finite_queries (hKernelIdeal := hKernelIdeal) (hReferenceIdeal := hReferenceIdeal) (hPre_finite_queries := hPre_finite_queries)
-- ==== Pre_finite_queries.lean ====
abbrev S1x2048x1024 : Shape := ⟨3, ![1, 2048, 1024]⟩
abbrev S1024x1024 : Shape := ⟨2, ![1024, 1024]⟩
abbrev S4096x1024 : Shape := ⟨2, ![4096, 1024]⟩
abbrev S8192x1024 : Shape := ⟨2, ![8192, 1024]⟩
abbrev S256x512 : Shape := ⟨2, ![256, 512]⟩
abbrev S65536x1024 : Shape := ⟨2, ![65536, 1024]⟩
abbrev S_ : Shape := ⟨0, ![]⟩

class Facts : Prop where
  bcast_S_S1x2048x1024 : S_.BroadcastsInDim S1x2048x1024 (![] : Fin 0 → Fin S1x2048x1024.rank)
  reducesTo_S1x2048x1024_S_d0_1_2 : S1x2048x1024.ReducesTo [0, 1, 2] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S256x512 : S_.BroadcastsInDim S256x512 (![] : Fin 0 → Fin S256x512.rank)
  reducesTo_S256x512_S_d0_1 : S256x512.ReducesTo [0, 1] S_

variable [Facts]

def fn_part1 {F : FTy → Type} [FloatOps F] (main_v13 : IVec S_ 1) (main_v16 : IVec S256x512 1) : IVec S_ 1 :=
  let main_c_5 : IVec S_ 1 := constantI S_ 1 1#1
  let main_v17 : IVec S_ 1 := (fun x v => Host.reduce IntOp.andi x v reducesTo_S256x512_S_d0_1 h_S_) main_v16 main_c_5
  let main_v18 : IVec S_ 1 := andi main_v13 main_v17
  main_v18

def fn {F : FTy → Type} [FloatOps F] (main_arg0 : FVec F S1x2048x1024 .f32) (main_arg1 : FVec F S1024x1024 .f32) (main_arg2 : FVec F S4096x1024 .f32) (main_arg3 : FVec F S8192x1024 .f32) (main_arg4 : FVec F S256x512 .f32) (main_arg5 : FVec F S256x512 .f32) (main_arg6 : FVec F S65536x1024 .f32) (main_arg7 : FVec F S65536x1024 .f32) : IVec S_ 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_c : IVec S_ 1 := constantI S_ 1 1#1
  let main_v3 : IVec S_ 1 := (fun x v => Host.reduce IntOp.andi x v reducesTo_S1x2048x1024_S_d0_1_2 h_S_) main_v2 main_c
  let main_v4 : FVec F S4096x1024 .f32 := Host.absf main_arg2
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S256x512 .f32 := Host.absf main_arg4
  let main_cst_2 : FVec F S_ .f32 := constant S_ .f32 0x7F800000#32
  let main_v10 : FVec F S256x512 .f32 := broadcastInDim S256x512 ![] bcast_S_S256x512 main_cst_2
  let main_v11 : IVec S256x512 1 := cmpf .olt main_v9 main_v10
  let main_c_3 : IVec S_ 1 := constantI S_ 1 1#1
  let main_v12 : IVec S_ 1 := (fun x v => Host.reduce IntOp.andi x v reducesTo_S256x512_S_d0_1 h_S_) main_v11 main_c_3
  let main_v13 : IVec S_ 1 := andi main_v8 main_v12
  let main_v14 : FVec F S256x512 .f32 := Host.absf main_arg5
  let main_cst_4 : FVec F S_ .f32 := constant S_ .f32 0x7F800000#32
  let main_v15 : FVec F S256x512 .f32 := broadcastInDim S256x512 ![] bcast_S_S256x512 main_cst_4
  let main_v16 : IVec S256x512 1 := cmpf .olt main_v14 main_v15
  fn_part1 (F := F) main_v13 main_v16
-- ==== Kernel.lean ====
abbrev S1x2048x1024 : Shape := ⟨3, ![1, 2048, 1024]⟩
abbrev S1024x1024 : Shape := ⟨2, ![1024, 1024]⟩
abbrev S4096x1024 : Shape := ⟨2, ![4096, 1024]⟩
abbrev S8192x1024 : Shape := ⟨2, ![8192, 1024]⟩
abbrev S256x512 : Shape := ⟨2, ![256, 512]⟩
abbrev S65536x1024 : Shape := ⟨2, ![65536, 1024]⟩
abbrev S2048x1024 : Shape := ⟨2, ![2048, 1024]⟩
abbrev S8x512x1024 : Shape := ⟨3, ![8, 512, 1024]⟩
abbrev S8x1024x1024 : Shape := ⟨3, ![8, 1024, 1024]⟩
abbrev S2296x1024 : Shape := ⟨2, ![2296, 1024]⟩
abbrev S_ : Shape := ⟨0, ![]⟩
abbrev S2304x1024 : Shape := ⟨2, ![2304, 1024]⟩
abbrev S256x1024 : Shape := ⟨2, ![256, 1024]⟩
abbrev S1x512x1024 : Shape := ⟨3, ![1, 512, 1024]⟩
abbrev S1x1024x1024 : Shape := ⟨3, ![1, 1024, 1024]⟩
abbrev S512x1024 : Shape := ⟨2, ![512, 1024]⟩
abbrev S256x256 : Shape := ⟨2, ![256, 256]⟩
abbrev S256 : Shape := ⟨1, ![256]⟩
abbrev S256x1 : Shape := ⟨2, ![256, 1]⟩
abbrev S256x8 : Shape := ⟨2, ![256, 8]⟩
abbrev S256x64 : Shape := ⟨2, ![256, 64]⟩
abbrev S256x2304 : Shape := ⟨2, ![256, 2304]⟩

abbrev nBuf : Space → Nat
  | .hbm => 27
  | .vmem => 15
  | .smem => 0
  | _ => 0

abbrev bufTy : (tb : Table) → Fin (tcTables nBuf tb) → BufTy
  | .hbm, ⟨0, _⟩ => ⟨S1x2048x1024, .f32⟩
  | .hbm, ⟨1, _⟩ => ⟨S1024x1024, .f32⟩
  | .hbm, ⟨2, _⟩ => ⟨S4096x1024, .f32⟩
  | .hbm, ⟨3, _⟩ => ⟨S8192x1024, .f32⟩
  | .hbm, ⟨4, _⟩ => ⟨S256x512, .f32⟩
  | .hbm, ⟨5, _⟩ => ⟨S256x512, .f32⟩
  | .hbm, ⟨6, _⟩ => ⟨S65536x1024, .f32⟩
  | .hbm, ⟨7, _⟩ => ⟨S65536x1024, .f32⟩
  | .hbm, ⟨8, _⟩ => ⟨S2048x1024, .f32⟩
  | .hbm, ⟨9, _⟩ => ⟨S2048x1024, .bf16⟩
  | .hbm, ⟨10, _⟩ => ⟨S8x512x1024, .f32⟩
  | .hbm, ⟨11, _⟩ => ⟨S8x512x1024, .bf16⟩
  | .hbm, ⟨12, _⟩ => ⟨S8x1024x1024, .f32⟩
  | .hbm, ⟨13, _⟩ => ⟨S8x1024x1024, .bf16⟩
  | .hbm, ⟨14, _⟩ => ⟨S256x512, .bf16⟩
  | .hbm, ⟨15, _⟩ => ⟨S256x512, .bf16⟩
  | .hbm, ⟨16, _⟩ => ⟨S2296x1024, .f32⟩
  | .hbm, ⟨17, _⟩ => ⟨S2296x1024, .bf16⟩
  | .hbm, ⟨18, _⟩ => ⟨S_, .i32⟩
  | .hbm, ⟨19, _⟩ => ⟨S_, .bf16⟩
  | .hbm, ⟨20, _⟩ => ⟨S2304x1024, .bf16⟩
  | .hbm, ⟨21, _⟩ => ⟨S2296x1024, .f32⟩
  | .hbm, ⟨22, _⟩ => ⟨S2296x1024, .bf16⟩
  | .hbm, ⟨23, _⟩ => ⟨S_, .i32⟩
  | .hbm, ⟨24, _⟩ => ⟨S_, .bf16⟩
  | .hbm, ⟨25, _⟩ => ⟨S2304x1024, .bf16⟩
  | .hbm, ⟨26, _⟩ => ⟨S2048x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S1024x1024, .f32⟩
  | .local _ .vmem, ⟨5, _⟩ => ⟨S1x512x1024, .bf16⟩
  | .local _ .vmem, ⟨6, _⟩ => ⟨S1x512x1024, .bf16⟩
  | .local _ .vmem, ⟨7, _⟩ => ⟨S256x512, .bf16⟩
  | .local _ .vmem, ⟨8, _⟩ => ⟨S256x512, .bf16⟩
  | .local _ .vmem, ⟨9, _⟩ => ⟨S1x1024x1024, .bf16⟩
  | .local _ .vmem, ⟨10, _⟩ => ⟨S1x1024x1024, .bf16⟩
  | .local _ .vmem, ⟨11, _⟩ => ⟨S2304x1024, .bf16⟩
  | .local _ .vmem, ⟨12, _⟩ => ⟨S2304x1024, .bf16⟩
  | .local _ .vmem, ⟨13, _⟩ => ⟨S256x1024, .f32⟩
  | .local _ .vmem, ⟨14, _⟩ => ⟨S256x1024, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c : Ref sig .tc := ⟨.hbm, 18, rfl⟩
abbrev main_call0_v0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c_0 : Ref sig .tc := ⟨.hbm, 23, rfl⟩
abbrev main_call1_v0 : Ref sig .tc := ⟨.hbm, 24, rfl⟩
abbrev main_v13 : Ref sig .tc := ⟨.hbm, 25, rfl⟩
abbrev main_v14 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![8, 8], ![false, false]⟩

def k0_cond1 (i : grid0.Coords) : BitVec 1 :=
  let arg1 : BitVec 32 := BitVec.ofNat 32 (i 1).val
  let c0_i32_183 : BitVec 32 := 0#32
  let v664 : BitVec 1 := Scalar.cmpi .eq arg1 c0_i32_183
  let v665 : BitVec 32 := Scalar.extui v664
  let c0_i32_184 : BitVec 32 := 0#32
  let v666 : BitVec 1 := Scalar.cmpi .ne v665 c0_i32_184
  v666

def k0_cond2 (i : grid0.Coords) : BitVec 1 :=
  let arg1 : BitVec 32 := BitVec.ofNat 32 (i 1).val
  let c0_i32_185 : BitVec 32 := 0#32
  let v667 : BitVec 1 := Scalar.cmpi .ne arg1 c0_i32_185
  let v668 : BitVec 32 := Scalar.extui v667
  let c0_i32_186 : BitVec 32 := 0#32
  let v669 : BitVec 1 := Scalar.cmpi .ne v668 c0_i32_186
  v669

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S2304x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S2304x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== ReferenceIdeal.lean ====
abbrev S1x2048x1024 : Shape := ⟨3, ![1, 2048, 1024]⟩
abbrev S1024x1024 : Shape := ⟨2, ![1024, 1024]⟩
abbrev S4096x1024 : Shape := ⟨2, ![4096, 1024]⟩
abbrev S8192x1024 : Shape := ⟨2, ![8192, 1024]⟩
abbrev S256x512 : Shape := ⟨2, ![256, 512]⟩
abbrev S65536x1024 : Shape := ⟨2, ![65536, 1024]⟩
abbrev S1024x4096 : Shape := ⟨2, ![1024, 4096]⟩
abbrev S1x2048x4096 : Shape := ⟨3, ![1, 2048, 4096]⟩
abbrev S1x2048x8x512 : Shape := ⟨4, ![1, 2048, 8, 512]⟩
abbrev S1024x8192 : Shape := ⟨2, ![1024, 8192]⟩
abbrev S1x2048x8192 : Shape := ⟨3, ![1, 2048, 8192]⟩
abbrev S1x2048x8x1024 : Shape := ⟨4, ![1, 2048, 8, 1024]⟩
abbrev S512x256 : Shape := ⟨2, ![512, 256]⟩
abbrev S1x2048x8x256 : Shape := ⟨4, ![1, 2048, 8, 256]⟩
abbrev S1x2048x8x8 : Shape := ⟨4, ![1, 2048, 8, 8]⟩
abbrev S1x2048x8x8x1 : Shape := ⟨5, ![1, 2048, 8, 8, 1]⟩
abbrev S1x2048x8x1x8 : Shape := ⟨5, ![1, 2048, 8, 1, 8]⟩
abbrev S1x2048x8x8x8 : Shape := ⟨5, ![1, 2048, 8, 8, 8]⟩
abbrev S1x2048x8x64 : Shape := ⟨4, ![1, 2048, 8, 64]⟩
abbrev S_ : Shape := ⟨0, ![]⟩
abbrev S1x2048x8 : Shape := ⟨3, ![1, 2048, 8]⟩
abbrev S1x2048x8x1 : Shape := ⟨4, ![1, 2048, 8, 1]⟩
abbrev S2048x8x8x1 : Shape := ⟨4, ![2048, 8, 8, 1]⟩
abbrev S1 : Shape := ⟨1, ![1]⟩
abbrev S1x1x1x1 : Shape := ⟨4, ![1, 1, 1, 1]⟩
abbrev S2048x8x8 : Shape := ⟨3, ![2048, 8, 8]⟩
abbrev S1x1x1x1x1 : Shape := ⟨5, ![1, 1, 1, 1, 1]⟩
abbrev S1x2048x8x8x1024 : Shape := ⟨5, ![1, 2048, 8, 8, 1024]⟩
abbrev S2048x1024 : Shape := ⟨2, ![2048, 1024]⟩

abbrev nBuf : Space → Nat
  | .hbm => 204
  | .vmem => 0
  | .smem => 0
  | _ => 0

abbrev hbmTy0_0 (i : Nat) : BufTy := match i % 128 with
  | 0 => ⟨S1x2048x1024, .f32⟩
  | 1 => ⟨S1024x1024, .f32⟩
  | 2 => ⟨S4096x1024, .f32⟩
  | 3 => ⟨S8192x1024, .f32⟩
  | 4 => ⟨S256x512, .f32⟩
  | 5 => ⟨S256x512, .f32⟩
  | 6 => ⟨S65536x1024, .f32⟩
  | 7 => ⟨S65536x1024, .f32⟩
  | 8 => ⟨S1024x4096, .f32⟩
  | 9 => ⟨S1x2048x4096, .f32⟩
  | 10 => ⟨S1x2048x8x512, .f32⟩
  | 11 => ⟨S1024x8192, .f32⟩
  | 12 => ⟨S1x2048x8192, .f32⟩
  | 13 => ⟨S1x2048x8x1024, .f32⟩
  | 14 => ⟨S1024x1024, .f32⟩
  | 15 => ⟨S1x2048x1024, .f32⟩
  | 16 => ⟨S512x256, .f32⟩
  | 17 => ⟨S1x2048x8x256, .f32⟩
  | 18 => ⟨S1x2048x8x8, .f32⟩
  | 19 => ⟨S1x2048x8x8, .i32⟩
  | 20 => ⟨S512x256, .f32⟩
  | 21 => ⟨S1x2048x8x256, .f32⟩
  | 22 => ⟨S1x2048x8x8, .f32⟩
  | 23 => ⟨S1x2048x8x8, .i32⟩
  | 24 => ⟨S1x2048x8x8x1, .f32⟩
  | 25 => ⟨S1x2048x8x1x8, .f32⟩
  | 26 => ⟨S1x2048x8x8x8, .f32⟩
  | 27 => ⟨S1x2048x8x8x8, .f32⟩
  | 28 => ⟨S1x2048x8x8x8, .f32⟩
  | 29 => ⟨S1x2048x8x64, .f32⟩
  | 30 => ⟨S1x2048x8x8, .f32⟩
  | 31 => ⟨S1x2048x8x8, .i32⟩
  | 32 => ⟨S_, .f32⟩
  | 33 => ⟨S1x2048x8, .f32⟩
  | 34 => ⟨S_, .f32⟩
  | 35 => ⟨S1x2048x8, .f32⟩
  | 36 => ⟨S1x2048x8, .f32⟩
  | 37 => ⟨S1x2048x8x1, .f32⟩
  | 38 => ⟨S1x2048x8x8, .f32⟩
  | 39 => ⟨S1x2048x8x8, .f32⟩
  | 40 => ⟨S1x2048x8x8, .f32⟩
  | 41 => ⟨S_, .f32⟩
  | 42 => ⟨S1x2048x8, .f32⟩
  | 43 => ⟨S1x2048x8x1, .f32⟩
  | 44 => ⟨S1x2048x8x8, .f32⟩
  | 45 => ⟨S1x2048x8x8, .f32⟩
  | 46 => ⟨S_, .i32⟩
  | 47 => ⟨S_, .i32⟩
  | 48 => ⟨S1x2048x8x8, .i32⟩
  | 49 => ⟨S1x2048x8x8, .i32⟩
  | 50 => ⟨S1x2048x8x8, .i32⟩
  | 51 => ⟨S_, .i32⟩
  | 52 => ⟨S1x2048x8x8, .i32⟩
  | 53 => ⟨S1x2048x8x8, .i1⟩
  | 54 => ⟨S1x2048x8x8, .i32⟩
  | 55 => ⟨S1x2048x8x8, .i32⟩
  | 56 => ⟨S_, .i32⟩
  | 57 => ⟨S1x2048x8x8, .i32⟩
  | 58 => ⟨S1x2048x8x8, .i1⟩
  | 59 => ⟨S1x2048x8x8, .i1⟩
  | 60 => ⟨S_, .i32⟩
  | 61 => ⟨S1x2048x8x8, .i32⟩
  | 62 => ⟨S1x2048x8x8, .i32⟩
  | 63 => ⟨S1x2048x8x8, .i32⟩
  | 64 => ⟨S_, .i32⟩
  | 65 => ⟨S_, .i32⟩
  | 66 => ⟨S_, .i32⟩
  | 67 => ⟨S_, .i1⟩
  | 68 => ⟨S_, .i32⟩
  | 69 => ⟨S_, .i32⟩
  | 70 => ⟨S1x2048x8x8, .i32⟩
  | 71 => ⟨S1x2048x8x8, .i32⟩
  | 72 => ⟨S_, .i32⟩
  | 73 => ⟨S1x2048x8x8, .i32⟩
  | 74 => ⟨S1x2048x8x8, .i1⟩
  | 75 => ⟨S_, .i32⟩
  | 76 => ⟨S1x2048x8x8, .i32⟩
  | 77 => ⟨S1x2048x8x8, .i1⟩
  | 78 => ⟨S_, .i32⟩
  | 79 => ⟨S_, .i1⟩
  | 80 => ⟨S1x2048x8x8, .i1⟩
  | 81 => ⟨S1x2048x8x8, .i1⟩
  | 82 => ⟨S1x2048x8x8, .i1⟩
  | 83 => ⟨S1x2048x8x8, .i32⟩
  | 84 => ⟨S1x2048x8x8, .i32⟩
  | 85 => ⟨S1x2048x8x8, .i32⟩
  | 86 => ⟨S_, .i32⟩
  | 87 => ⟨S1x2048x8x8, .i32⟩
  | 88 => ⟨S1x2048x8x8, .i1⟩
  | 89 => ⟨S_, .i32⟩
  | 90 => ⟨S1x2048x8x8, .i32⟩
  | 91 => ⟨S1x2048x8x8, .i32⟩
  | 92 => ⟨S1x2048x8x8, .i32⟩
  | 93 => ⟨S2048x8x8x1, .i32⟩
  | 94 => ⟨S1, .i32⟩
  | 95 => ⟨S_, .i32⟩
  | 96 => ⟨S2048x8x8x1, .i32⟩
  | 97 => ⟨S2048x8x8x1, .i1⟩
  | 98 => ⟨S1x1x1x1, .i32⟩
  | 99 => ⟨S2048x8x8x1, .i32⟩
  | 100 => ⟨S2048x8x8x1, .i1⟩
  | 101 => ⟨S2048x8x8x1, .i1⟩
  | 102 => ⟨S_, .i1⟩
  | 103 => ⟨S2048x8x8, .i1⟩
  | 104 => ⟨S1x2048x8x8, .i32⟩
  | 105 => ⟨S1x2048x8x8, .i1⟩
  | 106 => ⟨S_, .i32⟩
  | 107 => ⟨S1x2048x8x8, .i32⟩
  | 108 => ⟨S1x2048x8x8, .i32⟩
  | 109 => ⟨S_, .i32⟩
  | 110 => ⟨S1x2048x8x8, .i32⟩
  | 111 => ⟨S1x2048x8x8, .i1⟩
  | 112 => ⟨S_, .i32⟩
  | 113 => ⟨S1x2048x8x8, .i32⟩
  | 114 => ⟨S1x2048x8x8, .i32⟩
  | 115 => ⟨S1x2048x8x8, .i32⟩
  | 116 => ⟨S2048x8x8x1, .i32⟩
  | 117 => ⟨S1, .i32⟩
  | 118 => ⟨S_, .i32⟩
  | 119 => ⟨S2048x8x8x1, .i32⟩
  | 120 => ⟨S2048x8x8x1, .i1⟩
  | 121 => ⟨S1x1x1x1, .i32⟩
  | 122 => ⟨S2048x8x8x1, .i32⟩
  | 123 => ⟨S2048x8x8x1, .i1⟩
  | 124 => ⟨S2048x8x8x1, .i1⟩
  | 125 => ⟨S_, .i1⟩
  | 126 => ⟨S2048x8x8, .i1⟩
  | 127 => ⟨S1x2048x8x8, .i32⟩
  | _ => ⟨S1x2048x1024, .f32⟩

abbrev hbmTy0_1 (i : Nat) : BufTy := match i % 128 with
  | 0 => ⟨S1x2048x8x8, .i1⟩
  | 1 => ⟨S_, .i32⟩
  | 2 => ⟨S1x2048x8x8, .i32⟩
  | 3 => ⟨S1x2048x8x8, .i32⟩
  | 4 => ⟨S_, .i32⟩
  | 5 => ⟨S1x2048x8x8, .i32⟩
  | 6 => ⟨S1x2048x8x8, .i32⟩
  | 7 => ⟨S1x2048x8x8, .i32⟩
  | 8 => ⟨S_, .i32⟩
  | 9 => ⟨S1x2048x8x8, .i32⟩
  | 10 => ⟨S1x2048x8x8, .i1⟩
  | 11 => ⟨S_, .i32⟩
  | 12 => ⟨S1x2048x8x8, .i32⟩
  | 13 => ⟨S1x2048x8x8, .i32⟩
  | 14 => ⟨S1x2048x8x8, .i32⟩
  | 15 => ⟨S1x2048x8x8x1, .i32⟩
  | 16 => ⟨S1, .i32⟩
  | 17 => ⟨S_, .i32⟩
  | 18 => ⟨S1x2048x8x8x1, .i32⟩
  | 19 => ⟨S1x2048x8x8x1, .i1⟩
  | 20 => ⟨S1x1x1x1x1, .i32⟩
  | 21 => ⟨S1x2048x8x8x1, .i32⟩
  | 22 => ⟨S1x2048x8x8x1, .i1⟩
  | 23 => ⟨S1x2048x8x8x1, .i1⟩
  | 24 => ⟨S_, .i1⟩
  | 25 => ⟨S1x2048x8x8, .i1⟩
  | 26 => ⟨S1x2048x8x8x1024, .f32⟩
  | 27 => ⟨S1x2048x8x8x1024, .i1⟩
  | 28 => ⟨S_, .f32⟩
  | 29 => ⟨S1x2048x8x8x1024, .f32⟩
  | 30 => ⟨S1x2048x8x8x1024, .f32⟩
  | 31 => ⟨S_, .i32⟩
  | 32 => ⟨S1x2048x8x8, .i32⟩
  | 33 => ⟨S1x2048x8x8, .i1⟩
  | 34 => ⟨S_, .i32⟩
  | 35 => ⟨S1x2048x8x8, .i32⟩
  | 36 => ⟨S1x2048x8x8, .i32⟩
  | 37 => ⟨S1x2048x8x8, .i32⟩
  | 38 => ⟨S1x2048x8x8x1, .i32⟩
  | 39 => ⟨S1, .i32⟩
  | 40 => ⟨S_, .i32⟩
  | 41 => ⟨S1x2048x8x8x1, .i32⟩
  | 42 => ⟨S1x2048x8x8x1, .i1⟩
  | 43 => ⟨S1x1x1x1x1, .i32⟩
  | 44 => ⟨S1x2048x8x8x1, .i32⟩
  | 45 => ⟨S1x2048x8x8x1, .i1⟩
  | 46 => ⟨S1x2048x8x8x1, .i1⟩
  | 47 => ⟨S_, .i1⟩
  | 48 => ⟨S1x2048x8x8, .i1⟩
  | 49 => ⟨S1x2048x8x8x1024, .f32⟩
  | 50 => ⟨S1x2048x8x8x1024, .i1⟩
  | 51 => ⟨S_, .f32⟩
  | 52 => ⟨S1x2048x8x8x1024, .f32⟩
  | 53 => ⟨S1x2048x8x8x1024, .f32⟩
  | 54 => ⟨S1x2048x8x8, .f32⟩
  | 55 => ⟨S1x2048x8x8, .f32⟩
  | 56 => ⟨S1x2048x8x8, .f32⟩
  | 57 => ⟨S_, .f32⟩
  | 58 => ⟨S1x2048x8x8, .f32⟩
  | 59 => ⟨S1x2048x8x8, .f32⟩
  | 60 => ⟨S1x2048x8x8, .f32⟩
  | 61 => ⟨S_, .f32⟩
  | 62 => ⟨S1x2048x8x8, .f32⟩
  | 63 => ⟨S1x2048x8x8, .f32⟩
  | 64 => ⟨S1x2048x8x8, .f32⟩
  | 65 => ⟨S_, .f32⟩
  | 66 => ⟨S1x2048x8x8, .f32⟩
  | 67 => ⟨S1x2048x8x8, .f32⟩
  | 68 => ⟨S_, .f32⟩
  | 69 => ⟨S1x2048x8x8, .f32⟩
  | 70 => ⟨S1x2048x8x8, .f32⟩
  | 71 => ⟨S1x2048x8x8, .f32⟩
  | 72 => ⟨S1x2048x8x8, .f32⟩
  | 73 => ⟨S1x2048x1024, .f32⟩
  | 74 => ⟨S1x2048x1024, .f32⟩
  | 75 => ⟨S2048x1024, .f32⟩
  | _ => ⟨S1x2048x1024, .f32⟩

abbrev hbmTy (i : Nat) : BufTy := match i / 128 with
  | 0 => hbmTy0_0 i
  | 1 => hbmTy0_1 i
  | _ => ⟨S1x2048x1024, .f32⟩

abbrev bufTy : (tb : Table) → Fin (tcTables nBuf tb) → BufTy
  | .hbm, ⟨i, _⟩ => hbmTy i
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_values : Ref sig .tc := ⟨.hbm, 18, rfl⟩
abbrev main_indices : Ref sig .tc := ⟨.hbm, 19, rfl⟩
abbrev main_v10 : Ref sig .tc := ⟨.hbm, 20, rfl⟩
abbrev main_v11 : Ref sig .tc := ⟨.hbm, 21, rfl⟩
abbrev main_values_0 : Ref sig .tc := ⟨.hbm, 22, rfl⟩
abbrev main_indices_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_values_2 : Ref sig .tc := ⟨.hbm, 30, rfl⟩
abbrev main_indices_3 : Ref sig .tc := ⟨.hbm, 31, rfl⟩
abbrev main_cst : Ref sig .tc := ⟨.hbm, 32, rfl⟩
abbrev main_v18 : Ref sig .tc := ⟨.hbm, 33, rfl⟩
abbrev main_cst_4 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c : Ref sig .tc := ⟨.hbm, 46, rfl⟩
abbrev main_call0_v0 : Ref sig .tc := ⟨.hbm, 47, rfl⟩
abbrev main_call0_v1 : Ref sig .tc := ⟨.hbm, 48, rfl⟩
abbrev main_call0_v2 : Ref sig .tc := ⟨.hbm, 49, rfl⟩
abbrev main_call0_v3 : Ref sig .tc := ⟨.hbm, 50, rfl⟩
abbrev main_call0_v4 : Ref sig .tc := ⟨.hbm, 51, rfl⟩
abbrev main_call0_v5 : Ref sig .tc := ⟨.hbm, 52, rfl⟩
abbrev main_call0_v6 : Ref sig .tc := ⟨.hbm, 53, rfl⟩
abbrev main_call0_v7 : Ref sig .tc := ⟨.hbm, 54, rfl⟩
abbrev main_call0_v8 : Ref sig .tc := ⟨.hbm, 55, rfl⟩
abbrev main_call0_c : Ref sig .tc := ⟨.hbm, 56, rfl⟩
abbrev main_call0_v9 : Ref sig .tc := ⟨.hbm, 57, rfl⟩
abbrev main_call0_v10 : Ref sig .tc := ⟨.hbm, 58, rfl⟩
abbrev main_call0_v11 : Ref sig .tc := ⟨.hbm, 59, rfl⟩
abbrev main_call0_c_0 : Ref sig .tc := ⟨.hbm, 60, rfl⟩
abbrev main_call0_v12 : Ref sig .tc := ⟨.hbm, 61, rfl⟩
abbrev main_call0_v13 : Ref sig .tc := ⟨.hbm, 62, rfl⟩
abbrev main_v29 : Ref sig .tc := ⟨.hbm, 63, rfl⟩
abbrev main_c_6 : Ref sig .tc := ⟨.hbm, 64, rfl⟩
abbrev main_call1_v0 : Ref sig .tc := ⟨.hbm, 65, rfl⟩
abbrev main_call1_c : Ref sig .tc := ⟨.hbm, 66, rfl⟩
abbrev main_call1_v1 : Ref sig .tc := ⟨.hbm, 67, rfl⟩
abbrev main_call1_c_0 : Ref sig .tc := ⟨.hbm, 68, rfl⟩
abbrev main_call1_v2 : Ref sig .tc := ⟨.hbm, 69, rfl⟩
abbrev main_call1_v3 : Ref sig .tc := ⟨.hbm, 70, rfl⟩
abbrev main_call1_v4 : Ref sig .tc := ⟨.hbm, 71, rfl⟩
abbrev main_call1_c_1 : Ref sig .tc := ⟨.hbm, 72, rfl⟩
abbrev main_call1_v5 : Ref sig .tc := ⟨.hbm, 73, rfl⟩
abbrev main_call1_v6 : Ref sig .tc := ⟨.hbm, 74, rfl⟩
abbrev main_call1_c_2 : Ref sig .tc := ⟨.hbm, 75, rfl⟩
abbrev main_call1_v7 : Ref sig .tc := ⟨.hbm, 76, rfl⟩
abbrev main_call1_v8 : Ref sig .tc := ⟨.hbm, 77, rfl⟩
abbrev main_call1_c_3 : Ref sig .tc := ⟨.hbm, 78, rfl⟩
abbrev main_call1_v9 : Ref sig .tc := ⟨.hbm, 79, rfl⟩
abbrev main_call1_v10 : Ref sig .tc := ⟨.hbm, 80, rfl⟩
abbrev main_call1_v11 : Ref sig .tc := ⟨.hbm, 81, rfl⟩
abbrev main_call1_v12 : Ref sig .tc := ⟨.hbm, 82, rfl⟩
abbrev main_call1_v13 : Ref sig .tc := ⟨.hbm, 83, rfl⟩
abbrev main_call1_v14 : Ref sig .tc := ⟨.hbm, 84, rfl⟩
abbrev main_v30 : Ref sig .tc := ⟨.hbm, 85, rfl⟩
abbrev main_call2_c : Ref sig .tc := ⟨.hbm, 86, rfl⟩
abbrev main_call2_v0 : Ref sig .tc := ⟨.hbm, 87, rfl⟩
abbrev main_call2_v1 : Ref sig .tc := ⟨.hbm, 88, rfl⟩
abbrev main_call2_c_0 : Ref sig .tc := ⟨.hbm, 89, rfl⟩
abbrev main_call2_v2 : Ref sig .tc := ⟨.hbm, 90, rfl⟩
abbrev main_call2_v3 : Ref sig .tc := ⟨.hbm, 91, rfl⟩
abbrev main_call2_v4 : Ref sig .tc := ⟨.hbm, 92, rfl⟩
abbrev main_call2_v5 : Ref sig .tc := ⟨.hbm, 93, rfl⟩
abbrev main_call2_c_1 : Ref sig .tc := ⟨.hbm, 94, rfl⟩
abbrev main_call2_c_2 : Ref sig .tc := ⟨.hbm, 95, rfl⟩
abbrev main_call2_v6 : Ref sig .tc := ⟨.hbm, 96, rfl⟩
abbrev main_call2_v7 : Ref sig .tc := ⟨.hbm, 97, rfl⟩
abbrev main_call2_v8 : Ref sig .tc := ⟨.hbm, 98, rfl⟩
abbrev main_call2_v9 : Ref sig .tc := ⟨.hbm, 99, rfl⟩
abbrev main_call2_v10 : Ref sig .tc := ⟨.hbm, 100, rfl⟩
abbrev main_call2_v11 : Ref sig .tc := ⟨.hbm, 101, rfl⟩
abbrev main_call2_c_3 : Ref sig .tc := ⟨.hbm, 102, rfl⟩
abbrev main_call2_v12 : Ref sig .tc := ⟨.hbm, 103, rfl⟩
abbrev main_call2_v13 : Ref sig .tc := ⟨.hbm, 104, rfl⟩
abbrev main_call2_v14 : Ref sig .tc := ⟨.hbm, 105, rfl⟩
abbrev main_call2_c_4 : Ref sig .tc := ⟨.hbm, 106, rfl⟩
abbrev main_call2_v15 : Ref sig .tc := ⟨.hbm, 107, rfl⟩
abbrev main_v31 : Ref sig .tc := ⟨.hbm, 108, rfl⟩
abbrev main_call3_c : Ref sig .tc := ⟨.hbm, 109, rfl⟩
abbrev main_call3_v0 : Ref sig .tc := ⟨.hbm, 110, rfl⟩
abbrev main_call3_v1 : Ref sig .tc := ⟨.hbm, 111, rfl⟩
abbrev main_call3_c_0 : Ref sig .tc := ⟨.hbm, 112, rfl⟩
abbrev main_call3_v2 : Ref sig .tc := ⟨.hbm, 113, rfl⟩
abbrev main_call3_v3 : Ref sig .tc := ⟨.hbm, 114, rfl⟩
abbrev main_call3_v4 : Ref sig .tc := ⟨.hbm, 115, rfl⟩
abbrev main_call3_v5 : Ref sig .tc := ⟨.hbm, 116, rfl⟩
abbrev main_call3_c_1 : Ref sig .tc := ⟨.hbm, 117, rfl⟩
abbrev main_call3_c_2 : Ref sig .tc := ⟨.hbm, 118, rfl⟩
abbrev main_call3_v6 : Ref sig .tc := ⟨.hbm, 119, rfl⟩
abbrev main_call3_v7 : Ref sig .tc := ⟨.hbm, 120, rfl⟩
abbrev main_call3_v8 : Ref sig .tc := ⟨.hbm, 121, rfl⟩
abbrev main_call3_v9 : Ref sig .tc := ⟨.hbm, 122, rfl⟩
abbrev main_call3_v10 : Ref sig .tc := ⟨.hbm, 123, rfl⟩
abbrev main_call3_v11 : Ref sig .tc := ⟨.hbm, 124, rfl⟩
abbrev main_call3_c_3 : Ref sig .tc := ⟨.hbm, 125, rfl⟩
abbrev main_call3_v12 : Ref sig .tc := ⟨.hbm, 126, rfl⟩
abbrev main_call3_v13 : Ref sig .tc := ⟨.hbm, 127, rfl⟩
abbrev main_call3_v14 : Ref sig .tc := ⟨.hbm, 128, rfl⟩
abbrev main_call3_c_4 : Ref sig .tc := ⟨.hbm, 129, rfl⟩
abbrev main_call3_v15 : Ref sig .tc := ⟨.hbm, 130, rfl⟩
abbrev main_v32 : Ref sig .tc := ⟨.hbm, 131, rfl⟩
abbrev main_c_7 : Ref sig .tc := ⟨.hbm, 132, rfl⟩
abbrev main_v33 : Ref sig .tc := ⟨.hbm, 133, rfl⟩
abbrev main_v34 : Ref sig .tc := ⟨.hbm, 134, rfl⟩
abbrev main_v35 : Ref sig .tc := ⟨.hbm, 135, rfl⟩
abbrev main_call4_c : Ref sig .tc := ⟨.hbm, 136, rfl⟩
abbrev main_call4_v0 : Ref sig .tc := ⟨.hbm, 137, rfl⟩
abbrev main_call4_v1 : Ref sig .tc := ⟨.hbm, 138, rfl⟩
abbrev main_call4_c_0 : Ref sig .tc := ⟨.hbm, 139, rfl⟩
abbrev main_call4_v2 : Ref sig .tc := ⟨.hbm, 140, rfl⟩
abbrev main_call4_v3 : Ref sig .tc := ⟨.hbm, 141, rfl⟩
abbrev main_call4_v4 : Ref sig .tc := ⟨.hbm, 142, rfl⟩
abbrev main_call4_v5 : Ref sig .tc := ⟨.hbm, 143, rfl⟩
abbrev main_call4_c_1 : Ref sig .tc := ⟨.hbm, 144, rfl⟩
abbrev main_call4_c_2 : Ref sig .tc := ⟨.hbm, 145, rfl⟩
abbrev main_call4_v6 : Ref sig .tc := ⟨.hbm, 146, rfl⟩
abbrev main_call4_v7 : Ref sig .tc := ⟨.hbm, 147, rfl⟩
abbrev main_call4_v8 : Ref sig .tc := ⟨.hbm, 148, rfl⟩
abbrev main_call4_v9 : Ref sig .tc := ⟨.hbm, 149, rfl⟩
abbrev main_call4_v10 : Ref sig .tc := ⟨.hbm, 150, rfl⟩
abbrev main_call4_v11 : Ref sig .tc := ⟨.hbm, 151, rfl⟩
abbrev main_call4_c_3 : Ref sig .tc := ⟨.hbm, 152, rfl⟩
abbrev main_call4_v12 : Ref sig .tc := ⟨.hbm, 153, rfl⟩
abbrev main_call4_v13 : Ref sig .tc := ⟨.hbm, 154, rfl⟩
abbrev main_call4_v14 : Ref sig .tc := ⟨.hbm, 155, rfl⟩
abbrev main_call4_cst : Ref sig .tc := ⟨.hbm, 156, rfl⟩
abbrev main_call4_v15 : Ref sig .tc := ⟨.hbm, 157, rfl⟩
abbrev main_v36 : Ref sig .tc := ⟨.hbm, 158, rfl⟩
abbrev main_call5_c : Ref sig .tc := ⟨.hbm, 159, rfl⟩
abbrev main_call5_v0 : Ref sig .tc := ⟨.hbm, 160, rfl⟩
abbrev main_call5_v1 : Ref sig .tc := ⟨.hbm, 161, rfl⟩
abbrev main_call5_c_0 : Ref sig .tc := ⟨.hbm, 162, rfl⟩
abbrev main_call5_v2 : Ref sig .tc := ⟨.hbm, 163, rfl⟩
abbrev main_call5_v3 : Ref sig .tc := ⟨.hbm, 164, rfl⟩
abbrev main_call5_v4 : Ref sig .tc := ⟨.hbm, 165, rfl⟩
abbrev main_call5_v5 : Ref sig .tc := ⟨.hbm, 166, rfl⟩
abbrev main_call5_c_1 : Ref sig .tc := ⟨.hbm, 167, rfl⟩
abbrev main_call5_c_2 : Ref sig .tc := ⟨.hbm, 168, rfl⟩
abbrev main_call5_v6 : Ref sig .tc := ⟨.hbm, 169, rfl⟩
abbrev main_call5_v7 : Ref sig .tc := ⟨.hbm, 170, rfl⟩
abbrev main_call5_v8 : Ref sig .tc := ⟨.hbm, 171, rfl⟩
abbrev main_call5_v9 : Ref sig .tc := ⟨.hbm, 172, rfl⟩
abbrev main_call5_v10 : Ref sig .tc := ⟨.hbm, 173, rfl⟩
abbrev main_call5_v11 : Ref sig .tc := ⟨.hbm, 174, rfl⟩
abbrev main_call5_c_3 : Ref sig .tc := ⟨.hbm, 175, rfl⟩
abbrev main_call5_v12 : Ref sig .tc := ⟨.hbm, 176, rfl⟩
abbrev main_call5_v13 : Ref sig .tc := ⟨.hbm, 177, rfl⟩
abbrev main_call5_v14 : Ref sig .tc := ⟨.hbm, 178, rfl⟩
abbrev main_call5_cst : Ref sig .tc := ⟨.hbm, 179, rfl⟩
abbrev main_call5_v15 : Ref sig .tc := ⟨.hbm, 180, rfl⟩
abbrev main_v37 : Ref sig .tc := ⟨.hbm, 181, rfl⟩
abbrev main_v38 : Ref sig .tc := ⟨.hbm, 182, rfl⟩
abbrev main_v39 : Ref sig .tc := ⟨.hbm, 183, rfl⟩
abbrev main_v40 : Ref sig .tc := ⟨.hbm, 184, rfl⟩
abbrev main_cst_8 : Ref sig .tc := ⟨.hbm, 185, rfl⟩
abbrev main_v41 : Ref sig .tc := ⟨.hbm, 186, rfl⟩
abbrev main_v42 : Ref sig .tc := ⟨.hbm, 187, rfl⟩
abbrev main_v43 : Ref sig .tc := ⟨.hbm, 188, rfl⟩
abbrev main_cst_9 : Ref sig .tc := ⟨.hbm, 189, rfl⟩
abbrev main_v44 : Ref sig .tc := ⟨.hbm, 190, rfl⟩
abbrev main_v45 : Ref sig .tc := ⟨.hbm, 191, rfl⟩
abbrev main_v46 : Ref sig .tc := ⟨.hbm, 192, rfl⟩
abbrev main_cst_10 : Ref sig .tc := ⟨.hbm, 193, rfl⟩
abbrev main_v47 : Ref sig .tc := ⟨.hbm, 194, rfl⟩
abbrev main_v48 : Ref sig .tc := ⟨.hbm, 195, rfl⟩
abbrev main_cst_11 : Ref sig .tc := ⟨.hbm, 196, rfl⟩
abbrev main_v49 : Ref sig .tc := ⟨.hbm, 197, rfl⟩
abbrev main_v50 : Ref sig .tc := ⟨.hbm, 198, rfl⟩
abbrev main_v51 : Ref sig .tc := ⟨.hbm, 199, rfl⟩
abbrev main_v52 : Ref sig .tc := ⟨.hbm, 200, rfl⟩
abbrev main_v53 : Ref sig .tc := ⟨.hbm, 201, rfl⟩
abbrev main_v54 : Ref sig .tc := ⟨.hbm, 202, rfl⟩
abbrev main_v55 : Ref sig .tc := ⟨.hbm, 203, rfl⟩

abbrev nD : Nat := 1
abbrev τ : Topo := Topo.v7x

variable {F : FTy → Type} [FloatOps F]
-- ==== Proof.Rank.lean ====
/- Ranking the entries of one row: the stable descending order, and its reading as repeated maximum with masking. -/
module

public import Idealize.ShloMosaic.Lib.SortFacts
public import Idealize.ShloMosaic.Lib.SortPrefix
public import Idealize.ShloMosaic.PureOps.Ideal

@[expose] public section

noncomputable section

namespace Cert.Proof.Rank

open Idealize.ShloMosaic

variable {n : Nat}

/-- The position of the entry of `f` that a stable descending sort puts at place `k`. -/
def rank (f : Fin n → EReal) (k : Fin n) : Fin n := sortedFrom (fun a b => decide (f b < f a)) k

/-- The descending order made strict and total: equal entries in the order of their positions. -/
def before (f : Fin n → EReal) (a b : Fin n) : Bool := decide (f b < f a) || (decide (f a = f b) && decide (a < b))

theorem before_strict (f : Fin n → EReal) : StrictTotalBefore (before f) := by
  classical
  refine StrictTotalBefore.of_key_then_position (fun x y : EReal => decide (y < x)) f ?_ ?_ ?_
  · intro a; simp
  · intro a b c h1 h2; simp only [decide_eq_true_eq] at *; exact lt_trans h2 h1
  · intro a b
    rcases lt_trichotomy a b with h | h | h
    · exact Or.inr (Or.inr (by simpa using h))
    · exact Or.inr (Or.inl h)
    · exact Or.inl (by simpa using h)

/-- On a list in increasing order of position the two orders sort alike. -/
theorem stableSort_before (f : Fin n → EReal) (l : List (Fin n)) (hl : l.Pairwise (· < ·)) :
    stableSort (fun a b => decide (f b < f a)) l = stableSort (before f) l := by
  induction l with
  | nil => rfl
  | cons a l ih =>
    obtain ⟨ha, hl'⟩ := List.pairwise_cons.mp hl
    unfold stableSort
    rw [ih hl']
    refine insertBefore_congr _ _ a _ fun b hb => ?_
    have hab : a < b := ha b ((perm_stableSort _ l).mem_iff.mp hb)
    simp [before, not_lt.mpr hab.le]

theorem rank_eq_before (f : Fin n → EReal) (k : Fin n) : rank f k = sortedFrom (before f) k := by
  have h : sortPositions n (fun a b => decide (f b < f a)) = sortPositions n (before f) :=
    stableSort_before f _ (List.pairwise_lt_finRange n)
  unfold rank sortedFrom
  simp only [List.get_eq_getElem, h, Fin.val_cast]

theorem rank_injective (f : Fin n → EReal) : Function.Injective (rank f) := sortedFrom_injective _

theorem rank_surjective (f : Fin n → EReal) : Function.Surjective (rank f) := sortedFrom_surjective _

/-- A later place does not hold a greater entry, nor an equal entry at an earlier position. -/
theorem rank_order (f : Fin n → EReal) (i j : Fin n) (h : i < j) :
    f (rank f j) ≤ f (rank f i) ∧ (f (rank f j) = f (rank f i) → rank f i < rank f j) := by
  have hs := before_strict f
  have := sortedFrom_noInversion (before f) (before f) (fun a b h => hs.asymm a b h) (fun _ _ h => h) hs.negTrans i j h
  rw [← rank_eq_before, ← rank_eq_before] at this
  simp only [before, Bool.or_eq_false_iff, Bool.and_eq_false_iff, decide_eq_false_iff_not, not_lt] at this
  refine ⟨this.1, fun he => ?_⟩
  have h2 : rank f i ≤ rank f j := by
    rcases this.2 with h2 | h2
    · exact absurd he h2
    · exact h2
  exact lt_of_le_of_ne h2 fun e => absurd (rank_injective f e) h.ne

/-- The row `f` with its first `k` ranked entries masked out. -/
def rest (f : Fin n → EReal) (k : Nat) (i : Fin n) : EReal := if ∃ j : Fin n, j.val < k ∧ rank f j = i then ⊥ else f i

theorem rest_zero (f : Fin n → EReal) : rest f 0 = f := by
  funext i; simp [rest]

/-- Masking the entry of rank `k` too. -/
theorem rest_succ (f : Fin n → EReal) (k : Fin n) (i : Fin n) :
    rest f (k.val + 1) i = if i = rank f k then ⊥ else rest f k i := by
  unfold rest
  by_cases hi : i = rank f k
  · rw [if_pos ⟨k, by omega, hi.symm⟩, if_pos hi]
  · rw [if_neg hi]
    refine if_congr ⟨?_, ?_⟩ rfl rfl
    · rintro ⟨j, hj, e⟩
      refine ⟨j, ?_, e⟩
      rcases Nat.lt_or_eq_of_le (Nat.lt_succ_iff.mp hj) with h | h
      · exact h
      · exact absurd (e ▸ congrArg (rank f) (Fin.ext h)) hi
    · rintro ⟨j, hj, e⟩
      exact ⟨j, by omega, e⟩

/-- The entry of rank `k` is still there. -/
theorem rest_rank (f : Fin n → EReal) (k : Fin n) : rest f k (rank f k) = f (rank f k) := by
  refine if_neg ?_
  rintro ⟨j, hj, e⟩
  have := rank_injective f e
  omega

/-- What is left is not above the entry of rank `k`. -/
theorem rest_le (f : Fin n → EReal) (k i : Fin n) : rest f k i ≤ f (rank f k) := by
  unfold rest
  split
  · exact bot_le
  · next h =>
    obtain ⟨j, rfl⟩ := rank_surjective f i
    have hj : k ≤ j := by
      by_contra hc
      exact h ⟨j, by omega, rfl⟩
    rcases lt_or_eq_of_le hj with h1 | h1
    · exact (rank_order f k j h1).1
    · rw [h1]

/-- Where what is left reaches the entry of rank `k`, the position is not before that of rank `k`. -/
theorem rank_le_of_rest_eq (f : Fin n → EReal) (hf : ∀ i, f i ≠ ⊥) (k i : Fin n) (h : rest f k i = f (rank f k)) :
    rank f k ≤ i := by
  unfold rest at h
  split at h
  · exact absurd h.symm (hf _)
  · next hn =>
    obtain ⟨j, rfl⟩ := rank_surjective f i
    have hj : k ≤ j := by
      by_contra hc
      exact hn ⟨j, by omega, rfl⟩
    rcases lt_or_eq_of_le hj with h1 | h1
    · exact ((rank_order f k j h1).2 h).le
    · rw [h1]

/-- The greatest of what is left is the entry of rank `k`. -/
theorem fold_max_rest (f : Fin n → EReal) (k : Fin n) :
    (Finset.univ : Finset (Fin n)).fold max ⊥ (rest f k) = f (rank f k) := by
  refine le_antisymm ?_ ?_
  · exact (Finset.fold_max_le _).mpr ⟨bot_le, fun i _ => rest_le f k i⟩
  · exact (Finset.le_fold_max _).mpr (Or.inr ⟨rank f k, Finset.mem_univ _, (rest_rank f k).ge⟩)

theorem toInt_ofNat_small {m : Nat} (h : m < 2 ^ 31) : (BitVec.ofNat 32 m).toInt = m := by
  rw [BitVec.toInt_eq_toNat_of_lt] <;> simp only [BitVec.toNat_ofNat] <;> omega

theorem minsi_of_le (a b : BitVec 32) (h : a.toInt ≤ b.toInt) : IntOp.minsi a b = a := by
  unfold IntOp.minsi
  by_cases h' : a.toInt < b.toInt
  · simp [BitVec.slt, h']
  · have : a = b := BitVec.eq_of_toInt_eq (by omega)
    subst this; simp

theorem minsi_of_ge (a b : BitVec 32) (h : b.toInt ≤ a.toInt) : IntOp.minsi a b = b := by
  unfold IntOp.minsi
  by_cases h' : a.toInt < b.toInt
  · omega
  · simp [BitVec.slt, h']

/-- A signed minimum over a set, from a bound, is the least word there is. -/
theorem fold_minsi_eq [Std.Commutative (IntOp.minsi (w := 32))] [Std.Associative (IntOp.minsi (w := 32))]
    (s : Finset (Fin n)) (b : BitVec 32) (g : Fin n → BitVec 32) (t : Fin n) (ht : t ∈ s)
    (hb : (g t).toInt ≤ b.toInt) (hle : ∀ i ∈ s, (g t).toInt ≤ (g i).toInt) :
    s.fold IntOp.minsi b g = g t := by
  classical
  have key : ∀ s : Finset (Fin n), (∀ i ∈ s, (g t).toInt ≤ (g i).toInt) →
      (g t).toInt ≤ (s.fold IntOp.minsi b g).toInt := by
    intro s
    induction s using Finset.induction_on with
    | empty => intro _; simpa using hb
    | insert a s ha ih =>
      intro h
      rw [Finset.fold_insert ha]
      have h1 := h a (Finset.mem_insert_self _ _)
      have h2 := ih fun i hi => h i (Finset.mem_insert_of_mem hi)
      rcases le_total (g a).toInt ((s.fold IntOp.minsi b g).toInt) with h3 | h3
      · rw [minsi_of_le _ _ h3]; exact h1
      · rw [minsi_of_ge _ _ h3]; exact h2
  rw [← Finset.insert_erase ht, Finset.fold_insert (Finset.notMem_erase _ _)]
  exact minsi_of_le _ _ (key _ fun i hi => hle i (Finset.mem_of_mem_erase hi))

/-- The first position at which what is left reaches its greatest entry is that of rank `k`, as words. -/
theorem fold_minsi_rest [Std.Commutative (IntOp.minsi (w := 32))] [Std.Associative (IntOp.minsi (w := 32))]
    (hn : n < 2 ^ 31) (f : Fin n → EReal) (hf : ∀ i, f i ≠ ⊥) (k : Fin n) :
    (Finset.univ : Finset (Fin n)).fold IntOp.minsi 2147483647#32
      (fun i => if rest f k i = f (rank f k) then BitVec.ofNat 32 i.val else BitVec.ofNat 32 n)
      = BitVec.ofNat 32 (rank f k).val := by
  have hg : ∀ i : Fin n, (BitVec.ofNat 32 i.val).toInt = i.val := fun i => toInt_ofNat_small (by omega)
  have ht : (fun i : Fin n => if rest f k i = f (rank f k) then BitVec.ofNat 32 i.val else BitVec.ofNat 32 n) (rank f k)
      = BitVec.ofNat 32 (rank f k).val := if_pos (rest_rank f k)
  rw [← ht]
  refine fold_minsi_eq _ _ _ (rank f k) (Finset.mem_univ _) ?_ ?_
  · rw [if_pos (rest_rank f k), hg]
    have : (2147483647#32 : BitVec 32).toInt = 2147483647 := by decide
    rw [this]; omega
  · intro i _
    rw [if_pos (rest_rank f k), hg]
    split
    · next h => rw [hg]; exact_mod_cast rank_le_of_rest_eq f hf k i h
    · rw [toInt_ofNat_small hn]; have := (rank f k).isLt; omega

end Cert.Proof.Rank
-- ==== Proof.Rounds.lean ====
/- One round of selection over the rows of a matrix (the greatest entry, its first position, the entry masked out),
   and eight rounds of it: the ranked entries of every row and their positions. -/
module

public import Idealize.ShloMosaic.Lib.Pointwise
public import proofs.«01_k».proof.Proof.Rank

@[expose] public section

noncomputable section

namespace Cert.Proof.Rounds

open Idealize.ShloMosaic Cert.Proof.Rank

/-- The shape of a matrix. -/
abbrev Mat (m n : Nat) : Shape := ⟨2, ![m, n]⟩
/-- The shape of a vector. -/
abbrev Vct (m : Nat) : Shape := ⟨1, ![m]⟩

theorem reduces (m n : Nat) : (Mat m n).Reduces [1] (Vct m) :=
  ⟨rfl, Nat.one_pos, fun b => by
    have hb : b = 0 := Subsingleton.elim _ _
    subst hb
    rfl⟩

theorem casts (m : Nat) : (Vct m).ShapeCasts (Mat m 1) := by
  show (Mat m 1).numel = (Vct m).numel
  simp [Shape.numel, Fin.prod_univ_succ]

theorem broadcasts (m n : Nat) : (Mat m 1).Broadcasts (Mat m n) :=
  ⟨Nat.le_refl 2, fun a => by
    match a with
    | ⟨0, _⟩ => exact Or.inr fun _ => rfl
    | ⟨1, _⟩ => exact Or.inl rfl⟩

theorem iotas (m n : Nat) : (Mat m n).Iotas .tc 32 [1] :=
  ⟨List.nodup_singleton _, fun _ => ⟨Or.inr rfl, Nat.le_refl 2⟩, fun h => absurd rfl h⟩

variable {n : Nat}

/-- The greatest entry of each row, as a column. -/
def maxCol (v : FVec Ideal (Mat 256 n) .f32) : FVec Ideal (Mat 256 1) .f32 :=
  shapeCast (Mat 256 1) (multiReduction .maximumf [1] (Vct 256) v 0xFF800000#32 (reduces 256 n) (.inl rfl) rfl) (casts 256)

/-- The first position of each row's greatest entry, as a column of words. -/
def argCol (v : FVec Ideal (Mat 256 n) .f32) : IVec (Mat 256 1) 32 :=
  shapeCast (Mat 256 1)
    (multiReductionI .minsi [1] (Vct 256)
      (select (cmpf .oeq v (broadcastTo (Mat 256 n) (maxCol v) (broadcasts 256 n)))
        (iota .tc (Mat 256 n) 32 [1] (iotas 256 n)) (broadcast (Mat 256 n) (BitVec.ofNat 32 n)))
      2147483647#32 (reduces 256 n) rfl) (casts 256)

/-- Each row with that entry masked out. -/
def step (v : FVec Ideal (Mat 256 n) .f32) : FVec Ideal (Mat 256 n) .f32 :=
  select (cmpi .eq (iota .tc (Mat 256 n) 32 [1] (iotas 256 n)) (broadcastTo (Mat 256 n) (argCol v) (broadcasts 256 n)))
    (broadcast (Mat 256 n) (Scalar.ofBits .f32 0xFF800000#32)) v

theorem negInf : (FloatOps.ofBits (F := Ideal) FTy.f32 0xFF800000#32 : EReal) = ⊥ := by
  rw [Ideal.ofBits_def]; simp [Ideal.ofBits, Ideal.ieee]

theorem maxCol_row (v : FVec Ideal (Mat 256 n) .f32) (r : Fin 256) :
    maxCol v (ix2 r 0) = (Finset.univ : Finset (Fin n)).fold max ⊥ (fun i => v (ix2 r i)) := by
  pointwise [maxCol]
  rw [← Ideal.ofBits_def, negInf]

theorem argCol_row (v : FVec Ideal (Mat 256 n) .f32) (r : Fin 256) :
    argCol v (ix2 r 0) = (Finset.univ : Finset (Fin n)).fold IntOp.minsi 2147483647#32
      (fun i => if v (ix2 r i) = maxCol v (ix2 r 0) then BitVec.ofNat 32 i.val else BitVec.ofNat 32 n) := by
  pointwise [argCol]

theorem step_row (v : FVec Ideal (Mat 256 n) .f32) (r : Fin 256) (i : Fin n) :
    step v (ix2 r i) = if BitVec.ofNat 32 i.val = argCol v (ix2 r 0) then ⊥ else v (ix2 r i) := by
  pointwise [step]
  rw [← Ideal.ofBits_def, negInf]
  by_cases h : BitVec.ofNat 32 i.val = argCol v (ix2 r 0)
  · simp [Scalar.select, IntOp.cmpi, h]
  · simp only [Scalar.select, IntOp.cmpi, beq_eq_false_iff_ne.mpr h, if_neg h]
    exact if_neg (by decide)

/-- `v` with `k` rounds' entries masked out. -/
def iter (v : FVec Ideal (Mat 256 n) .f32) : Nat → FVec Ideal (Mat 256 n) .f32
  | 0 => v
  | k + 1 => step (iter v k)

/-- After the first `k` rounds a row is what `rest` says of it. -/
theorem iter_row (hn : n < 2 ^ 31) (v : FVec Ideal (Mat 256 n) .f32) (r : Fin 256) (hv : ∀ i : Fin n, v (ix2 r i) ≠ (⊥ : EReal))
    (k : Nat) (hk : k ≤ n) : ∀ i : Fin n, iter v k (ix2 r i) = rest (fun i => v (ix2 r i)) k i := by
  induction k with
  | zero => intro i; rw [rest_zero]; rfl
  | succ k ih =>
    have ih := ih (by omega)
    intro i
    show step (iter v k) (ix2 r i) = _
    rw [step_row, argCol_row, maxCol_row]
    simp only [ih]
    rw [show (fun i => rest (fun i => v (ix2 r i)) k i) = rest (fun i => v (ix2 r i)) (⟨k, by omega⟩ : Fin n).val from rfl, fold_max_rest]
    rw [fold_minsi_rest hn _ hv ⟨k, by omega⟩, rest_succ _ ⟨k, by omega⟩]
    refine if_congr ⟨fun h => ?_, fun h => by rw [h]⟩ rfl rfl
    have h1 := congrArg BitVec.toNat h
    rw [BitVec.toNat_ofNat, BitVec.toNat_ofNat, Nat.mod_eq_of_lt (by omega), Nat.mod_eq_of_lt (by omega)] at h1
    exact Fin.ext h1

/-- Round `k` finds each row's entry of rank `k`. -/
theorem maxCol_iter (hn : n < 2 ^ 31) (v : FVec Ideal (Mat 256 n) .f32) (r : Fin 256) (hv : ∀ i : Fin n, v (ix2 r i) ≠ (⊥ : EReal))
    (k : Fin n) : maxCol (iter v k) (ix2 r 0) = v (ix2 r (rank (fun i => v (ix2 r i)) k)) := by
  rw [maxCol_row]
  simp only [iter_row hn v r hv k.val k.isLt.le]
  exact fold_max_rest _ k

/-- Round `k` finds its position. -/
theorem argCol_iter (hn : n < 2 ^ 31) (v : FVec Ideal (Mat 256 n) .f32) (r : Fin 256) (hv : ∀ i : Fin n, v (ix2 r i) ≠ (⊥ : EReal))
    (k : Fin n) : argCol (iter v k) (ix2 r 0) = BitVec.ofNat 32 (rank (fun i => v (ix2 r i)) k).val := by
  rw [argCol_row, maxCol_iter hn v r hv k]
  simp only [iter_row hn v r hv k.val k.isLt.le]
  exact fold_minsi_rest hn _ hv k

theorem cats : Shape.Concatenates [Mat 256 1, Mat 256 1, Mat 256 1, Mat 256 1, Mat 256 1, Mat 256 1, Mat 256 1, Mat 256 1] (Mat 256 8) 1 := by
  decide

/-- Eight columns side by side. -/
def cat8 {α : Type} (c : Fin 8 → (Mat 256 1).Idx → α) : (Mat 256 8).Idx → α :=
  concatenate (Mat 256 8) 1 [⟨Mat 256 1, c 0⟩, ⟨Mat 256 1, c 1⟩, ⟨Mat 256 1, c 2⟩, ⟨Mat 256 1, c 3⟩, ⟨Mat 256 1, c 4⟩,
    ⟨Mat 256 1, c 5⟩, ⟨Mat 256 1, c 6⟩, ⟨Mat 256 1, c 7⟩] cats

theorem cat8_row {α : Type} (c : Fin 8 → (Mat 256 1).Idx → α) (r : Fin 256) (k : Fin 8) : cat8 c (ix2 r k) = c k (ix2 r 0) := by
  fin_cases k <;> pointwise [cat8]

/-- The eight greatest entries of every row, in order. -/
def topVals (v : FVec Ideal (Mat 256 n) .f32) : FVec Ideal (Mat 256 8) .f32 := cat8 fun k => maxCol (iter v k)

/-- Their positions. -/
def topArgs (v : FVec Ideal (Mat 256 n) .f32) : IVec (Mat 256 8) 32 := cat8 fun k => argCol (iter v k)

/-- The entry of `f` that is of rank `k`, for the first eight ranks. -/
def top (h : 8 ≤ n) (f : Fin n → EReal) (k : Fin 8) : Fin n := rank f (k.castLE h)

theorem topVals_row (h : 8 ≤ n) (hn : n < 2 ^ 31) (v : FVec Ideal (Mat 256 n) .f32) (r : Fin 256)
    (hv : ∀ i : Fin n, v (ix2 r i) ≠ (⊥ : EReal)) (k : Fin 8) :
    topVals v (ix2 r k) = v (ix2 r (top h (fun i => v (ix2 r i)) k)) := by
  unfold topVals
  rw [cat8_row]
  exact maxCol_iter hn v r hv (k.castLE h)

theorem topArgs_row (h : 8 ≤ n) (hn : n < 2 ^ 31) (v : FVec Ideal (Mat 256 n) .f32) (r : Fin 256)
    (hv : ∀ i : Fin n, v (ix2 r i) ≠ (⊥ : EReal)) (k : Fin 8) :
    topArgs v (ix2 r k) = BitVec.ofNat 32 (top h (fun i => v (ix2 r i)) k).val := by
  unfold topArgs
  rw [cat8_row]
  exact argCol_iter hn v r hv (k.castLE h)

end Cert.Proof.Rounds
-- ==== Proof.Stages.lean ====
/- The stages of the kernel's body as functions of the blocks it loads, and the plainer vector expressions they are. -/
module

public import proofs.«01_k».proof.Proof.Gen.KernelIdeal.Skeleton
public import proofs.«01_k».proof.Proof.Rounds

@[expose] public section

set_option maxRecDepth 16384

noncomputable section

namespace Cert.Proof.Stages

open Idealize.ShloMosaic Cert.KernelIdeal Cert.KernelIdeal.Gen Cert.Proof.Rank Cert.Proof.Rounds

/-- The position numbers of a row of 256 entries. -/
abbrev pos256 : IVec S256x256 32 := iota .tc S256x256 32 [1] iota_S256x256_d1_w32

/-- The position numbers of a row of 64 entries. -/
abbrev pos64 : IVec S256x64 32 := iota .tc S256x64 32 [1] iota_S256x64_d1_w32

/-- The position numbers of a row of 2304 entries. -/
abbrev pos2304 : IVec S256x2304 32 := iota .tc S256x2304 32 [1] iota_S256x2304_d1_w32

/-! ## Plainer vector expressions -/

/-- Eight terms added to `z`, in order. -/
def chain8 {α : Type} (add : α → α → α) (z : α) (f : Fin 8 → α) : α :=
  add (add (add (add (add (add (add (add z (f 0)) (f 1)) (f 2)) (f 3)) (f 4)) (f 5)) (f 6)) (f 7)

theorem colSlices (j : Fin 8) : (Mat 256 8).Slices ![0, j.val] (Mat 256 1) := by revert j; decide

/-- Column `j` of a matrix of eight columns. -/
def col {α : Type} (a : (Mat 256 8).Idx → α) (j : Fin 8) : (Mat 256 1).Idx → α :=
  extractStridedSlice (Mat 256 1) ![0, j.val] a (colSlices j)

/-- A column repeated `n` times. -/
def wide {α : Type} (n : Nat) (c : (Mat 256 1).Idx → α) : (Mat 256 n).Idx → α := broadcastTo (Mat 256 n) c (broadcasts 256 n)

theorem sameCast : (Mat 256 1).ShapeCasts (Mat 256 1) := rfl

/-- Column `j` of a matrix of eight columns, repeated `n` times. -/
def wcol {α : Type} (n : Nat) (a : (Mat 256 8).Idx → α) (j : Fin 8) : (Mat 256 n).Idx → α :=
  wide n (shapeCast (Mat 256 1) (col a j) sameCast)

/-- The sums of the left and right values: entry `8 j + k` is the `j`-th left value plus the `k`-th right value. -/
def crossSum (lv rv : FVec Ideal (Mat 256 8) .f32) : FVec Ideal (Mat 256 64) .f32 :=
  addf
    (concatenate (Mat 256 64) 1 [⟨Mat 256 8, wcol 8 lv 0⟩, ⟨Mat 256 8, wcol 8 lv 1⟩, ⟨Mat 256 8, wcol 8 lv 2⟩,
      ⟨Mat 256 8, wcol 8 lv 3⟩, ⟨Mat 256 8, wcol 8 lv 4⟩, ⟨Mat 256 8, wcol 8 lv 5⟩, ⟨Mat 256 8, wcol 8 lv 6⟩,
      ⟨Mat 256 8, wcol 8 lv 7⟩] concatenates_S256x8_S256x8_S256x8_S256x8_S256x8_S256x8_S256x8_S256x8_S256x64_d1)
    (concatenate (Mat 256 64) 1 [⟨Mat 256 8, rv⟩, ⟨Mat 256 8, rv⟩, ⟨Mat 256 8, rv⟩, ⟨Mat 256 8, rv⟩, ⟨Mat 256 8, rv⟩,
      ⟨Mat 256 8, rv⟩, ⟨Mat 256 8, rv⟩, ⟨Mat 256 8, rv⟩] concatenates_S256x8_S256x8_S256x8_S256x8_S256x8_S256x8_S256x8_S256x8_S256x64_d1)

/-- Each row's exponentials of the differences to its greatest entry. -/
def expRow (d : FVec Ideal (Mat 256 8) .f32) : FVec Ideal (Mat 256 8) .f32 := exp (subf d (wide 8 (maxCol d)))

/-- The softmax of each row. -/
def softRow (d : FVec Ideal (Mat 256 8) .f32) : FVec Ideal (Mat 256 8) .f32 :=
  divf (expRow d)
    (wide 8 (shapeCast (Mat 256 1) (multiReduction .add [1] (Vct 256) (expRow d) 0x00000000#32 (reduces 256 8) (.inl rfl) rfl) (casts 256)))

/-- Where `q` is `j`, column `j` of `a`; elsewhere zero. -/
def pickOne (a q : IVec (Mat 256 8) 32) (j : Fin 8) : IVec (Mat 256 8) 32 :=
  select (cmpi .eq q (broadcast (Mat 256 8) (BitVec.ofNat 32 j.val))) (wcol 8 a j) (broadcast (Mat 256 8) 0#32)

/-- The entry of `a` in the column that `q` names. -/
def pick (a q : IVec (Mat 256 8) 32) : IVec (Mat 256 8) 32 := chain8 addi (broadcast (Mat 256 8) 0#32) (pickOne a q)

/-- The entry of `ad` in the column that `fi`'s column `j` names, as a sum over the whole row. -/
def hitCol (ad : FVec Ideal (Mat 256 2304) .f32) (fi : IVec (Mat 256 8) 32) (j : Fin 8) : FVec Ideal (Mat 256 1) .f32 :=
  shapeCast (Mat 256 1)
    (multiReduction .add [1] (Vct 256)
      (select (cmpi .eq pos2304 (wide 2304 (col fi j))) ad (broadcast (Mat 256 2304) (Scalar.ofBits .f32 0x00000000#32)))
      0x00000000#32 (reduces 256 2304) (.inl rfl) rfl) (casts 256)

/-- The activation, entry by entry, in the kernel's order of operations. -/
def geluK (x : FVec Ideal (Mat 256 8) .f32) : FVec Ideal (Mat 256 8) .f32 :=
  mulf (mulf (broadcast (Mat 256 8) (Scalar.ofBits .f32 0x3F000000#32)) x)
    (addf (broadcast (Mat 256 8) (Scalar.ofBits .f32 0x3F800000#32))
      (tanh (mulf (broadcast (Mat 256 8) (Scalar.ofBits .f32 0x3F4C422A#32))
        (addf x (mulf (mulf (mulf (broadcast (Mat 256 8) (Scalar.ofBits .f32 0x3D372713#32)) x) x) x)))))

/-- Where the column number is `fi`'s column `j`, `w`'s column `j`; elsewhere zero. -/
def spreadOne (fi : IVec (Mat 256 8) 32) (w : FVec Ideal (Mat 256 8) .f32) (j : Fin 8) : FVec Ideal (Mat 256 2304) .f32 :=
  select (cmpi .eq pos2304 (wide 2304 (col fi j))) (wcol 2304 w j)
    (broadcast (Mat 256 2304) (Scalar.ofBits .f32 0x00000000#32))

/-- The quotient by eight of each word, rounded down. -/
def quot (q : IVec (Mat 256 8) 32) : IVec (Mat 256 8) 32 :=
  select
    (andi
      (cmpi .ne (subi (extui 32 (cmpi .sgt q (broadcast (Mat 256 8) 0#32)) natLt_1_32) (extui 32 (cmpi .slt q (broadcast (Mat 256 8) 0#32)) natLt_1_32))
        (broadcast (Mat 256 8) (Scalar.subi (Scalar.extui (Scalar.cmpi .sgt 8#32 0#32)) (Scalar.extui (Scalar.cmpi .slt 8#32 0#32)))))
      (cmpi .ne (remsi q (broadcast (Mat 256 8) 8#32)) (broadcast (Mat 256 8) 0#32)))
    (subi (divsi q (broadcast (Mat 256 8) 8#32)) (broadcast (Mat 256 8) 1#32))
    (divsi q (broadcast (Mat 256 8) 8#32))

/-- The divisor of the remainder. -/
def eight : BitVec 32 := Scalar.select (Scalar.cmpi .eq 8#32 0#32) 1#32 8#32

/-- The remainder by eight of each word, made to have the divisor's sign. -/
def remd (q : IVec (Mat 256 8) 32) : IVec (Mat 256 8) 32 :=
  k0_pay95 eight (remsi q (broadcast (Mat 256 8) eight))

/-- The eight weights of a row spread to the columns that `fi` names. -/
def spread (fi : IVec (Mat 256 8) 32) (w : FVec Ideal (Mat 256 8) .f32) : FVec Ideal (Mat 256 2304) .f32 :=
  chain8 addf (broadcast (Mat 256 2304) (Scalar.ofBits .f32 0x00000000#32)) (spreadOne fi w)

/-! ## The left and right scores -/

section Left

variable (v0 : Vec Ideal S256x1024 .bf16) (v2 : Vec Ideal S1x512x1024 .bf16) (v6 : Vec Ideal S256x512 .bf16)

/-- The greatest left scores. -/
def leftVals : FVec Ideal S256x8 .f32 :=
  k0_pay30 pos256 (k0_pay7 v0 v2 v6) (k0_pay10 v0 v2 v6) (k0_pay13 (k0_pay12 v0 v2 v6)) (k0_pay16 pos256 (k0_pay12 v0 v2 v6))
    (k0_pay19 pos256 (k0_pay12 v0 v2 v6)) (k0_pay21 pos256 (k0_pay12 v0 v2 v6)) (k0_pay22 pos256 (k0_pay12 v0 v2 v6))
    (k0_pay24 pos256 (k0_pay12 v0 v2 v6))

/-- Their positions. -/
def leftArgs : IVec S256x8 32 :=
  k0_pay31 pos256 (k0_pay8 v0 v2 v6) (k0_pay11 v0 v2 v6) (k0_pay14 pos256 (k0_pay12 v0 v2 v6)) (k0_pay17 pos256 (k0_pay12 v0 v2 v6))
    (k0_pay20 pos256 (k0_pay12 v0 v2 v6)) (k0_pay21 pos256 (k0_pay12 v0 v2 v6)) (k0_pay23 pos256 (k0_pay12 v0 v2 v6))
    (k0_pay24 pos256 (k0_pay12 v0 v2 v6))

theorem leftVals_eq : leftVals v0 v2 v6 = topVals (n := 256) (k0_pay5 v0 v2 v6) := rfl

theorem leftArgs_eq : leftArgs v0 v2 v6 = topArgs (n := 256) (k0_pay5 v0 v2 v6) := rfl

end Left

section Right

variable (v11 : FVec Ideal S256x256 .f32)

/-- The greatest right scores. -/
def rightVals : FVec Ideal S256x8 .f32 :=
  k0_pay56 pos256 (k0_pay32 v11) (k0_pay35 v11) (k0_pay38 pos256 (k0_pay34 v11) (k0_pay36 v11)) (k0_pay41 pos256 (k0_pay34 v11) (k0_pay36 v11))
    (k0_pay44 pos256 (k0_pay34 v11) (k0_pay36 v11)) (k0_pay46 pos256 (k0_pay34 v11) (k0_pay36 v11)) (k0_pay47 pos256 (k0_pay34 v11) (k0_pay36 v11))
    (k0_pay48 pos256 (k0_pay34 v11) (k0_pay36 v11)) k0_pay49

/-- Their positions. -/
def rightArgs : IVec S256x8 32 :=
  k0_pay57 pos256 (k0_pay33 v11) (k0_pay36 v11) (k0_pay39 pos256 (k0_pay34 v11) (k0_pay36 v11)) (k0_pay42 pos256 (k0_pay34 v11) (k0_pay36 v11))
    (k0_pay45 pos256 (k0_pay34 v11) (k0_pay36 v11)) (k0_pay46 pos256 (k0_pay34 v11) (k0_pay36 v11)) (k0_pay48 pos256 (k0_pay34 v11) (k0_pay36 v11))
    k0_pay49

theorem rightVals_eq : rightVals v11 = topVals (n := 256) v11 := rfl

theorem rightArgs_eq : rightArgs v11 = topArgs (n := 256) v11 := rfl

end Right

/-! ## The sixty-four sums, their eight greatest and the softmax of those -/

section Cross

variable (v105 v200 : FVec Ideal S256x8 .f32)

/-- The sixty-four sums. -/
def cross : FVec Ideal S256x64 .f32 :=
  k0_pay66 v200 (k0_pay58 v105) (k0_pay59 v105) (k0_pay60 v105) (k0_pay61 v105) (k0_pay62 v105) (k0_pay63 v105) (k0_pay64 v105) (k0_pay65 v105)

theorem cross_eq : cross v105 v200 = crossSum v105 v200 := rfl

/-- The sums with four rounds' entries masked out. -/
def cross4 : FVec Ideal S256x64 .f32 :=
  k0_pay75 v200 (k0_pay58 v105) (k0_pay59 v105) (k0_pay60 v105) (k0_pay61 v105) (k0_pay62 v105) (k0_pay63 v105) (k0_pay64 v105) (k0_pay65 v105)

/-- Where the fifth round's entries are. -/
def mask4 : IVec S256x64 1 :=
  k0_pay77 v200 (k0_pay58 v105) (k0_pay59 v105) (k0_pay60 v105) (k0_pay61 v105) (k0_pay62 v105) (k0_pay63 v105) (k0_pay64 v105) (k0_pay65 v105)

/-- The softmax of the greatest sums. -/
def scores : FVec Ideal S256x8 .f32 :=
  k0_pay92
    (k0_pay67 v200 (k0_pay58 v105) (k0_pay59 v105) (k0_pay60 v105) (k0_pay61 v105) (k0_pay62 v105) (k0_pay63 v105) (k0_pay64 v105) (k0_pay65 v105))
    (k0_pay70 v200 (k0_pay58 v105) (k0_pay59 v105) (k0_pay60 v105) (k0_pay61 v105) (k0_pay62 v105) (k0_pay63 v105) (k0_pay64 v105) (k0_pay65 v105))
    (k0_pay73 v200 (k0_pay58 v105) (k0_pay59 v105) (k0_pay60 v105) (k0_pay61 v105) (k0_pay62 v105) (k0_pay63 v105) (k0_pay64 v105) (k0_pay65 v105))
    (k0_pay76 v200 (k0_pay58 v105) (k0_pay59 v105) (k0_pay60 v105) (k0_pay61 v105) (k0_pay62 v105) (k0_pay63 v105) (k0_pay64 v105) (k0_pay65 v105))
    (k0_pay80 pos64 (cross4 v105 v200) (mask4 v105 v200) 64#32) (k0_pay83 pos64 (cross4 v105 v200) (mask4 v105 v200) 64#32)
    (k0_pay86 pos64 (cross4 v105 v200) (mask4 v105 v200) 64#32) (k0_pay89 pos64 (cross4 v105 v200) (mask4 v105 v200) 64#32)

theorem scores_eq : scores v105 v200 = softRow (topVals (n := 64) (crossSum v105 v200)) := rfl

/-- The quotient by eight of the positions of the greatest sums. -/
def quots : IVec S256x8 32 :=
  k0_pay93 pos64
    (k0_pay68 v200 (k0_pay58 v105) (k0_pay59 v105) (k0_pay60 v105) (k0_pay61 v105) (k0_pay62 v105) (k0_pay63 v105) (k0_pay64 v105) (k0_pay65 v105))
    (k0_pay71 v200 (k0_pay58 v105) (k0_pay59 v105) (k0_pay60 v105) (k0_pay61 v105) (k0_pay62 v105) (k0_pay63 v105) (k0_pay64 v105) (k0_pay65 v105))
    (k0_pay74 v200 (k0_pay58 v105) (k0_pay59 v105) (k0_pay60 v105) (k0_pay61 v105) (k0_pay62 v105) (k0_pay63 v105) (k0_pay64 v105) (k0_pay65 v105))
    (k0_pay78 pos64 (mask4 v105 v200) 64#32) (k0_pay81 pos64 (cross4 v105 v200) (mask4 v105 v200) 64#32)
    (k0_pay84 pos64 (cross4 v105 v200) (mask4 v105 v200) 64#32) (k0_pay87 pos64 (cross4 v105 v200) (mask4 v105 v200) 64#32)
    (k0_pay88 pos64 (cross4 v105 v200) (mask4 v105 v200) 64#32) (k0_pay89 pos64 (cross4 v105 v200) (mask4 v105 v200) 64#32)

/-- The remainder by eight of the positions of the greatest sums. -/
def rems : IVec S256x8 32 :=
  k0_pay95 (Scalar.select (Scalar.cmpi .eq 8#32 0#32) 1#32 8#32)
    (k0_pay94 pos64
    (k0_pay68 v200 (k0_pay58 v105) (k0_pay59 v105) (k0_pay60 v105) (k0_pay61 v105) (k0_pay62 v105) (k0_pay63 v105) (k0_pay64 v105) (k0_pay65 v105))
    (k0_pay71 v200 (k0_pay58 v105) (k0_pay59 v105) (k0_pay60 v105) (k0_pay61 v105) (k0_pay62 v105) (k0_pay63 v105) (k0_pay64 v105) (k0_pay65 v105))
    (k0_pay74 v200 (k0_pay58 v105) (k0_pay59 v105) (k0_pay60 v105) (k0_pay61 v105) (k0_pay62 v105) (k0_pay63 v105) (k0_pay64 v105) (k0_pay65 v105))
    (k0_pay78 pos64 (mask4 v105 v200) 64#32) (k0_pay81 pos64 (cross4 v105 v200) (mask4 v105 v200) 64#32)
    (k0_pay84 pos64 (cross4 v105 v200) (mask4 v105 v200) 64#32) (k0_pay87 pos64 (cross4 v105 v200) (mask4 v105 v200) 64#32)
    (k0_pay88 pos64 (cross4 v105 v200) (mask4 v105 v200) 64#32) (k0_pay89 pos64 (cross4 v105 v200) (mask4 v105 v200) 64#32))

theorem quots_eq : quots v105 v200 = quot (topArgs (n := 64) (crossSum v105 v200)) := rfl

theorem rems_eq : rems v105 v200 = remd (topArgs (n := 64) (crossSum v105 v200)) := rfl

end Cross

/-! ## The chosen rows of the tables -/

section Rows

variable (v106 v201 v356 v372 : IVec S256x8 32)

/-- Eight times the left position chosen by the quotient. -/
def rowHigh : IVec S256x8 32 := k0_pay98 v106 v356 (k0_pay96 v106 v356) (k0_pay97 v356)

/-- The first seven terms of the right position chosen by the remainder. -/
def rowLow7 : IVec S256x8 32 := k0_pay103 v201 v372 (k0_pay99 v201 v372) (k0_pay100 v372) (k0_pay101 v201) k0_pay102

/-- The row numbers. -/
def rows : IVec S256x8 32 := k0_pay107 (rowHigh v106 v356) (rowLow7 v201 v372) (k0_pay104 v372) (k0_pay105 v201) k0_pay106

theorem rows_eq : rows v106 v201 v356 v372 = addi (muli (pick v106 v356) (broadcast (Mat 256 8) 8#32)) (pick v201 v372) := rfl

end Rows

/-! ## The weights and the result -/

section Weights

variable (v332 : FVec Ideal S256x8 .f32) (v439 v496 : IVec S256x8 32) (v498 : IVec S256x8 1) (v501 v502 : IVec S256x8 32)
  (v506 : Vec Ideal S256x1024 .bf16) (v508 : Vec Ideal S1x1024x1024 .bf16) (v512 : Vec Ideal S2304x1024 .bf16)

/-- The weights of the chosen rows. -/
def weights : FVec Ideal S256x8 .f32 :=
  k0_pay114 v332 (k0_pay107 v439 v496 v498 v501 v502) (k0_pay108 v506 v508 v512) pos2304
    (k0_pay109 v439 v496 v498 v501 v502 v506 v508 v512) (k0_pay110 v439 v496 v498 v501 v502 v506 v508 v512)
    (k0_pay111 v439 v496 v498 v501 v502 v506 v508 v512) (k0_pay112 v439 v496 v498 v501 v502 v506 v508 v512)
    (k0_pay113 v439 v496 v498 v501 v502)

theorem weights_eq : weights v332 v439 v496 v498 v501 v502 v506 v508 v512
    = mulf v332 (geluK (cat8 (hitCol (k0_pay108 v506 v508 v512) (k0_pay107 v439 v496 v498 v501 v502)))) := rfl

/-- The weights times the rows of the second table. -/
def result (v661 : Vec Ideal S2304x1024 .bf16) : FVec Ideal S256x1024 .f32 :=
  k0_pay1 (k0_pay107 v439 v496 v498 v501 v502) pos2304 (weights v332 v439 v496 v498 v501 v502 v506 v508 v512)
    (k0_pay118 (k0_pay107 v439 v496 v498 v501 v502) pos2304 (weights v332 v439 v496 v498 v501 v502 v506 v508 v512) k0_pay115
      (k0_pay116 (k0_pay107 v439 v496 v498 v501 v502) pos2304)
      (k0_pay117 v332 (k0_pay107 v439 v496 v498 v501 v502) (k0_pay108 v506 v508 v512) pos2304
        (k0_pay109 v439 v496 v498 v501 v502 v506 v508 v512) (k0_pay110 v439 v496 v498 v501 v502 v506 v508 v512)
        (k0_pay111 v439 v496 v498 v501 v502 v506 v508 v512) (k0_pay112 v439 v496 v498 v501 v502 v506 v508 v512)
        (k0_pay113 v439 v496 v498 v501 v502))
      (Scalar.ofBits .f32 0x00000000#32))
    (k0_pay119 (k0_pay107 v439 v496 v498 v501 v502) pos2304) (k0_pay120 (weights v332 v439 v496 v498 v501 v502 v506 v508 v512))
    (Scalar.ofBits .f32 0x00000000#32) v661

theorem result_eq (v661 : Vec Ideal S2304x1024 .bf16) : result v332 v439 v496 v498 v501 v502 v506 v508 v512 v661
    = matmul (φ₁ := .bf16) (φ₂ := .bf16) dot_S256x2304_S2304x1024_S256x1024_1_0_0_1_n_n none
        (truncf .bf16 (spread (k0_pay107 v439 v496 v498 v501 v502) (weights v332 v439 v496 v498 v501 v502 v506 v508 v512)) bitsLt_bf16_f32)
        (shapeCast S2304x1024 v661 shapeCasts_S2304x1024_S2304x1024) (constant S256x1024 .f32 0x00000000#32) := rfl

end Weights

end Cert.Proof.Stages
-- ==== Proof.Body.lean ====
/- What one grid point leaves in the result's block, as a function of the blocks it loads. -/
module

public import proofs.«01_k».proof.Proof.Gen.KernelIdeal.Value
public import Idealize.ShloMosaic.Lib.Pipeline.ValueKit
public import proofs.«01_k».proof.Proof.Stages

@[expose] public section

set_option maxRecDepth 16384

noncomputable section

namespace Cert.Proof.Body

open Cert.KernelIdeal Cert.KernelIdeal.Gen Idealize.ShloMosaic Idealize.ShloMosaic.TcCoe Idealize.SL.Sem Cert.Proof.Rounds
  Cert.Proof.Stages

section Head

variable (x1 : Vec Ideal S256x1024 .bf16) (x3 : Vec Ideal S1x512x1024 .bf16) (x4 x5 : Vec Ideal S256x512 .bf16)
  (x6 : Vec Ideal S1x1024x1024 .bf16) (x7 x8 : Vec Ideal S2304x1024 .bf16)

/-- The left positions. -/
def la : IVec S256x8 32 := leftArgs x1 x3 x4
/-- The right positions. -/
def ra : IVec S256x8 32 := rightArgs (k0_pay6 x1 x3 x5)
/-- The left values. -/
def lv : FVec Ideal S256x8 .f32 := leftVals x1 x3 x4
/-- The right values. -/
def rv : FVec Ideal S256x8 .f32 := rightVals (k0_pay6 x1 x3 x5)

theorem la_eq : la x1 x3 x4 = topArgs (n := 256) (k0_pay5 x1 x3 x4) := leftArgs_eq _ _ _
theorem ra_eq : ra x1 x3 x5 = topArgs (n := 256) (k0_pay6 x1 x3 x5) := rightArgs_eq _
theorem lv_eq : lv x1 x3 x4 = topVals (n := 256) (k0_pay5 x1 x3 x4) := leftVals_eq _ _ _
theorem rv_eq : rv x1 x3 x5 = topVals (n := 256) (k0_pay6 x1 x3 x5) := rightVals_eq _

/-- One head's contribution. -/
def head : FVec Ideal S256x1024 .f32 :=
  result (scores (lv x1 x3 x4) (rv x1 x3 x5))
    (rowHigh (la x1 x3 x4) (quots (lv x1 x3 x4) (rv x1 x3 x5)))
    (rowLow7 (ra x1 x3 x5) (rems (lv x1 x3 x4) (rv x1 x3 x5)))
    (k0_pay104 (rems (lv x1 x3 x4) (rv x1 x3 x5))) (k0_pay105 (ra x1 x3 x5)) k0_pay106 x1 x6 x7 x8

/-- The row numbers of one head. -/
def headRows : IVec S256x8 32 :=
  addi (muli (pick (topArgs (n := 256) (k0_pay5 x1 x3 x4)) (quot (topArgs (n := 64)
      (crossSum (topVals (n := 256) (k0_pay5 x1 x3 x4)) (topVals (n := 256) (k0_pay6 x1 x3 x5)))))) (broadcast (Mat 256 8) 8#32))
    (pick (topArgs (n := 256) (k0_pay6 x1 x3 x5)) (remd (topArgs (n := 64)
      (crossSum (topVals (n := 256) (k0_pay5 x1 x3 x4)) (topVals (n := 256) (k0_pay6 x1 x3 x5))))))

/-- The weights of one head. -/
def headWeights : FVec Ideal S256x8 .f32 :=
  mulf (softRow (topVals (n := 64) (crossSum (topVals (n := 256) (k0_pay5 x1 x3 x4)) (topVals (n := 256) (k0_pay6 x1 x3 x5)))))
    (geluK (cat8 (hitCol (k0_pay108 x1 x6 x7) (headRows x1 x3 x4 x5))))

/-- One head's contribution: its weights, spread to the columns its row numbers name, times the second table. -/
theorem head_eq : head x1 x3 x4 x5 x6 x7 x8
    = matmul (φ₁ := .bf16) (φ₂ := .bf16) dot_S256x2304_S2304x1024_S256x1024_1_0_0_1_n_n none
        (truncf .bf16 (spread (headRows x1 x3 x4 x5) (headWeights x1 x3 x4 x5 x6 x7)) bitsLt_bf16_f32)
        (shapeCast S2304x1024 x8 shapeCasts_S2304x1024_S2304x1024) (constant S256x1024 .f32 0x00000000#32) := by
  have hr : k0_pay107 (rowHigh (la x1 x3 x4) (quots (lv x1 x3 x4) (rv x1 x3 x5)))
      (rowLow7 (ra x1 x3 x5) (rems (lv x1 x3 x4) (rv x1 x3 x5)))
      (k0_pay104 (rems (lv x1 x3 x4) (rv x1 x3 x5))) (k0_pay105 (ra x1 x3 x5)) k0_pay106 = headRows x1 x3 x4 x5 := by
    refine (rows_eq _ _ _ _).trans ?_
    rw [quots_eq, rems_eq, la_eq, ra_eq, lv_eq, rv_eq]
    rfl
  unfold head
  rw [result_eq, weights_eq, hr, scores_eq, lv_eq, rv_eq]
  rfl

end Head

variable (m : (ℓ : Loc nD τ sig) → Buf (Elt Ideal) ℓ)

theorem zeros2 : (![0, 0] : Fin 2 → Nat) = fun _ => 0 := by decide

/-- At the first head of a token block the point leaves the residual product plus the head's contribution. -/
theorem first (c : Dev nD) (t : Fin cfg0.N) (h0 : t.val % 8 = 0) (h1 : ¬ 1 ≤ t.val % 8) :
    outsAt0 m c t.val t.isLt
      = addf (matmul (φ₁ := .f32) (φ₂ := .f32) dot_S256x1024_S1024x1024_S256x1024_1_1_0_0_n_n none
          (shapeCast S256x1024 (iblk m c 0 t) shapeCasts_S256x1024_S256x1024) (iblk m c 2 t) (constant S256x1024 .f32 0x00000000#32))
        (head (iblk m c 1 t) (iblk m c 3 t) (iblk m c 4 t) (iblk m c 5 t) (iblk m c 6 t) (iblk m c 7 t) (iblk m c 8 t)) := by
  rw [outsAt0_A m c t h0 h1]
  frame_out
  rfl

/-- At a later head the point adds the head's contribution to what the point before left. -/
theorem later (c : Dev nD) (t : Fin cfg0.N) (h0 : ¬ t.val % 8 = 0) (h1 : 1 ≤ t.val % 8) :
    outsAt0 m c t.val t.isLt
      = addf (shapeCast S256x1024 (outsAt0 m c (t.val - 1) (Nat.lt_of_le_of_lt (Nat.sub_le _ _) t.isLt)) shapeCasts_S256x1024_S256x1024)
        (head (iblk m c 1 t) (iblk m c 3 t) (iblk m c 4 t) (iblk m c 5 t) (iblk m c 6 t) (iblk m c 7 t) (iblk m c 8 t)) := by
  rw [outsAt0_B m c t h0 h1]
  frame_out
  rfl

end Cert.Proof.Body
-- ==== Proof.Spec.lean ====
/- One head at one token, as plain mathematics: the two sides' top eight scores, the eight greatest of the sixty-four
   sums, their softmax, and the table rows they name. -/
module

public import proofs.«01_k».proof.Proof.Rounds

@[expose] public section

noncomputable section

namespace Cert.Proof.Spec

open Idealize.ShloMosaic Cert.Proof.Rank Cert.Proof.Rounds

/-- The positions of the eight greatest of 256 scores. -/
def side (f : Fin 256 → EReal) (k : Fin 8) : Fin 256 := top (by decide) f k

variable (sl sr : Fin 256 → EReal)

/-- The sixty-four sums. -/
def sums (j : Fin 64) : EReal := sl (side sl ⟨j.val / 8, by omega⟩) + sr (side sr ⟨j.val % 8, by omega⟩)

/-- The positions of the eight greatest sums. -/
def best (k : Fin 8) : Fin 64 := top (by decide) (sums sl sr) k

/-- The row number of the `k`-th of them. -/
def row (k : Fin 8) : Fin 2296 :=
  ⟨(side sl ⟨(best sl sr k).val / 8, by omega⟩).val * 8 + (side sr ⟨(best sl sr k).val % 8, by omega⟩).val, by omega⟩

/-- The unnormalized softmax weight of the `k`-th sum. -/
def expo (k : Fin 8) : EReal :=
  Ideal.exp (sums sl sr (best sl sr k) - (Finset.univ : Finset (Fin 8)).fold max ⊥ (fun k => sums sl sr (best sl sr k)))

/-- The softmax weight of the `k`-th sum. -/
def score (k : Fin 8) : EReal := Ideal.div (expo sl sr k) (∑ k, expo sl sr k)

/-- The activation. -/
def gelu (x : EReal) : EReal :=
  Ideal.ofBits FTy.f32 1056964608#32 * x *
    (1 + Ideal.tanh (Ideal.ofBits FTy.f32 1061962282#32 * (x + Ideal.ofBits FTy.f32 1027024659#32 * x * x * x)))

/-- The weighted sum of the rows that the row numbers name: `A` gives a row's inner product with the key, `E` its value. -/
def mix (A E : Fin 2296 → EReal) : EReal := ∑ k, score sl sr k * gelu (A (row sl sr k)) * E (row sl sr k)

/-! ## The weights are nonnegative -/

/-- Neither infinite. -/
def Finite (x : EReal) : Prop := x ≠ ⊥ ∧ x ≠ ⊤

theorem Finite.add {x y : EReal} (hx : Finite x) (hy : Finite y) : Finite (x + y) := by
  obtain ⟨x, rfl⟩ : ∃ r : ℝ, x = r := ⟨x.toReal, (EReal.coe_toReal hx.2 hx.1).symm⟩
  obtain ⟨y, rfl⟩ : ∃ r : ℝ, y = r := ⟨y.toReal, (EReal.coe_toReal hy.2 hy.1).symm⟩
  rw [← EReal.coe_add]
  exact ⟨EReal.coe_ne_bot _, EReal.coe_ne_top _⟩

theorem Finite.mul {x y : EReal} (hx : Finite x) (hy : Finite y) : Finite (x * y) := by
  obtain ⟨x, rfl⟩ : ∃ r : ℝ, x = r := ⟨x.toReal, (EReal.coe_toReal hx.2 hx.1).symm⟩
  obtain ⟨y, rfl⟩ : ∃ r : ℝ, y = r := ⟨y.toReal, (EReal.coe_toReal hy.2 hy.1).symm⟩
  rw [← EReal.coe_mul]
  exact ⟨EReal.coe_ne_bot _, EReal.coe_ne_top _⟩

theorem Finite.sum {ι : Type} (s : Finset ι) {f : ι → EReal} (h : ∀ i ∈ s, Finite (f i)) : Finite (∑ i ∈ s, f i) := by
  classical
  induction s using Finset.induction_on with
  | empty => exact ⟨EReal.zero_ne_bot, EReal.zero_ne_top⟩
  | insert a s ha ih =>
    rw [Finset.sum_insert ha]
    exact (h a (Finset.mem_insert_self a s)).add (ih fun i hi => h i (Finset.mem_insert_of_mem hi))

theorem exp_nonneg (x : EReal) : 0 ≤ Ideal.exp x := by
  induction x with
  | bot => exact le_refl _
  | top => exact le_top
  | coe r => exact EReal.coe_nonneg.mpr (Real.exp_pos r).le

theorem exp_pos (x : EReal) (h : x ≠ ⊥) : 0 < Ideal.exp x := by
  induction x with
  | bot => exact absurd rfl h
  | top => exact EReal.zero_lt_top
  | coe r => exact EReal.coe_pos.mpr (Real.exp_pos r)

theorem sums_finite (hl : ∀ i, Finite (sl i)) (hr : ∀ i, Finite (sr i)) (j : Fin 64) : Finite (sums sl sr j) :=
  (hl _).add (hr _)

theorem expo_pos (hl : ∀ i, Finite (sl i)) (hr : ∀ i, Finite (sr i)) (k : Fin 8) : 0 < expo sl sr k := by
  refine exp_pos _ ?_
  have h1 : (Finset.univ : Finset (Fin 8)).fold max ⊥ (fun k => sums sl sr (best sl sr k)) < ⊤ := by
    rw [Finset.fold_max_lt]
    exact ⟨bot_lt_top, fun k _ => lt_top_iff_ne_top.mpr (sums_finite sl sr hl hr _).2⟩
  rw [sub_eq_add_neg]
  rw [EReal.add_ne_bot_iff]
  refine ⟨(sums_finite sl sr hl hr _).1, fun h => ?_⟩
  rw [EReal.neg_eq_bot_iff] at h
  exact h1.ne h

theorem score_nonneg (hl : ∀ i, Finite (sl i)) (hr : ∀ i, Finite (sr i)) (k : Fin 8) : 0 ≤ score sl sr k := by
  have h0 : 0 < ∑ k, expo sl sr k :=
    lt_of_lt_of_le (expo_pos sl sr hl hr 0)
      (Finset.single_le_sum (f := expo sl sr) (fun k _ => (expo_pos sl sr hl hr k).le) (Finset.mem_univ 0))
  unfold score Ideal.div
  rw [if_neg h0.ne']
  exact mul_nonneg (expo_pos sl sr hl hr k).le (EReal.inv_nonneg_of_nonneg h0.le)

/-! ## A product with a row of weights spread over a table -/

theorem sum_mul_of_nonneg {ι : Type} (s : Finset ι) (f : ι → EReal) (hf : ∀ i, 0 ≤ f i) (y : EReal) :
    (∑ i ∈ s, f i) * y = ∑ i ∈ s, f i * y := by
  classical
  induction s using Finset.induction_on with
  | empty => simp
  | insert a s ha ih =>
    rw [Finset.sum_insert ha, Finset.sum_insert ha, EReal.right_distrib_of_nonneg (hf a) (Finset.sum_nonneg fun i _ => hf i), ih]

/-- The sum over the whole table of the weights that fall on each row times the row's entry is the sum over the
    weights: the weights on one row share the factor `g`, and the rest of each is nonnegative. -/
theorem spread_mul {K R : Type} [Fintype K] [Fintype R] [DecidableEq R] (ρ : K → R) (s : K → EReal) (hs : ∀ k, 0 ≤ s k) (g E : R → EReal) :
    (∑ i, (∑ k, if i = ρ k then s k * g (ρ k) else 0) * E i) = ∑ k, s k * g (ρ k) * E (ρ k) := by
  have h : ∀ i, (∑ k, if i = ρ k then s k * g (ρ k) else 0) * E i = ∑ k, if i = ρ k then s k * g (ρ k) * E (ρ k) else 0 := by
    intro i
    have h0 : ∀ k, 0 ≤ if i = ρ k then s k else 0 := fun k => by split <;> simp [hs]
    have h1 : (∑ k, if i = ρ k then s k * g (ρ k) else 0) = (∑ k, if i = ρ k then s k else 0) * g i := by
      rw [sum_mul_of_nonneg _ _ h0]
      refine Finset.sum_congr rfl fun k _ => ?_
      split
      · next h => rw [h]
      · rw [zero_mul]
    rw [h1, mul_assoc, sum_mul_of_nonneg _ _ h0]
    refine Finset.sum_congr rfl fun k _ => ?_
    split
    · next h => rw [h, mul_assoc]
    · rw [zero_mul]
  simp only [h]
  rw [Finset.sum_comm]
  refine Finset.sum_congr rfl fun k _ => ?_
  rw [Finset.sum_ite_eq' Finset.univ (ρ k)]
  exact if_pos (Finset.mem_univ _)

end Cert.Proof.Spec
-- ==== Proof.Rows.lean ====
/- The plainer vector expressions read at one entry. -/
module

public import Idealize.ShloMosaic.Lib.Pointwise
public import proofs.«01_k».proof.Proof.Stages
public import proofs.«01_k».proof.Proof.Spec

@[expose] public section

set_option maxRecDepth 16384

noncomputable section

namespace Cert.Proof.Rows

open Idealize.ShloMosaic Cert.KernelIdeal Cert.KernelIdeal.Gen Cert.Proof.Rank Cert.Proof.Rounds Cert.Proof.Stages

theorem wcol_row {α : Type} (n : Nat) (a : (Mat 256 8).Idx → α) (j : Fin 8) (r : Fin 256) (i : Fin n) :
    wcol n a j (ix2 r i) = a (ix2 r j) := by
  fin_cases j <;> pointwise [wcol, wide, col]

theorem wide_row {α : Type} (n : Nat) (a : (Mat 256 1).Idx → α) (r : Fin 256) (i : Fin n) :
    wide n a (ix2 r i) = a (ix2 r 0) := by
  pointwise [wide]

theorem col_row {α : Type} (a : (Mat 256 8).Idx → α) (j : Fin 8) (r : Fin 256) :
    col a j (ix2 r 0) = a (ix2 r j) := by
  fin_cases j <;> pointwise [col]

theorem select_eq {α : Type} (x y : BitVec 32) (a b : α) : Scalar.select (IntOp.cmpi .eq x y) a b = if x = y then a else b := by
  by_cases h : x = y
  · simp [Scalar.select, IntOp.cmpi, h]
  · simp only [Scalar.select, IntOp.cmpi, beq_eq_false_iff_ne.mpr h, if_neg h]
    exact if_neg (by decide)

/-- Eight matrices of eight columns side by side. -/
def cat64 (f : Fin 8 → FVec Ideal (Mat 256 8) .f32) : FVec Ideal (Mat 256 64) .f32 :=
  concatenate (Mat 256 64) 1 [⟨Mat 256 8, f 0⟩, ⟨Mat 256 8, f 1⟩, ⟨Mat 256 8, f 2⟩, ⟨Mat 256 8, f 3⟩, ⟨Mat 256 8, f 4⟩,
    ⟨Mat 256 8, f 5⟩, ⟨Mat 256 8, f 6⟩, ⟨Mat 256 8, f 7⟩] concatenates_S256x8_S256x8_S256x8_S256x8_S256x8_S256x8_S256x8_S256x8_S256x64_d1

theorem cat64_row (f : Fin 8 → FVec Ideal (Mat 256 8) .f32) (r : Fin 256) (a b : Fin 8) (j : Fin 64) (hj : j.val = 8 * a.val + b.val) :
    cat64 f (ix2 r j) = f a (ix2 r b) := by
  have hb := b.isLt
  pointwise [cat64]
  fin_cases a <;> dsimp only at hj <;>
    (repeat first | rw [dif_pos (by omega)] | rw [dif_neg (by omega)]) <;>
    exact congrArg _ (congrArg _ (Fin.ext (by simp only; omega)))

theorem crossSum_row (lv rv : FVec Ideal (Mat 256 8) .f32) (r : Fin 256) (a b : Fin 8) (j : Fin 64) (hj : j.val = 8 * a.val + b.val) :
    crossSum lv rv (ix2 r j) = ((lv (ix2 r a) : EReal) + rv (ix2 r b) : EReal) := by
  show addf (cat64 (wcol 8 lv)) (cat64 fun _ => rv) (ix2 r j) = _
  rw [← wcol_row 8 lv a r b, ← cat64_row (wcol 8 lv) r a b j hj, ← cat64_row (fun _ => rv) r a b j hj]
  rfl

theorem softRow_row (d : FVec Ideal (Mat 256 8) .f32) (r : Fin 256) (k : Fin 8) :
    softRow d (ix2 r k) =
      Ideal.div (Ideal.exp (d (ix2 r k) - (Finset.univ : Finset (Fin 8)).fold max ⊥ (fun i => d (ix2 r i))))
        (∑ x, Ideal.exp (d (ix2 r x) - (Finset.univ : Finset (Fin 8)).fold max ⊥ (fun i => d (ix2 r i)))) := by
  pointwise [softRow, expRow, wide]
  rw [maxCol_row]

theorem hitCol_row (ad : FVec Ideal (Mat 256 2304) .f32) (fi : IVec (Mat 256 8) 32) (j : Fin 8) (r : Fin 256) (i : Fin 2304)
    (hi : fi (ix2 r j) = BitVec.ofNat 32 i.val) :
    hitCol ad fi j (ix2 r 0) = ad (ix2 r i) := by
  pointwise [hitCol, wide]
  simp only [select_eq, col_row, hi]
  rw [Finset.sum_eq_single i]
  · rw [if_pos rfl]
  · intro x _ hx
    refine if_neg fun h => hx (Fin.ext ?_)
    have h1 := congrArg BitVec.toNat h
    rwa [BitVec.toNat_ofNat, BitVec.toNat_ofNat, Nat.mod_eq_of_lt (by omega), Nat.mod_eq_of_lt (by omega)] at h1
  · exact fun h => absurd (Finset.mem_univ i) h

theorem geluK_row (x : FVec Ideal (Mat 256 8) .f32) (r : Fin 256) (k : Fin 8) :
    geluK x (ix2 r k) = Spec.gelu (x (ix2 r k)) := by
  pointwise [geluK, Spec.gelu]

theorem quot_row (q : IVec (Mat 256 8) 32) (r : Fin 256) (k : Fin 8) (c : Fin 64) (hc : q (ix2 r k) = BitVec.ofNat 32 c.val) :
    quot q (ix2 r k) = BitVec.ofNat 32 (c.val / 8) := by
  pointwise [quot]
  rw [hc]
  clear hc
  revert c
  decide

theorem remd_row (q : IVec (Mat 256 8) 32) (r : Fin 256) (k : Fin 8) (c : Fin 64) (hc : q (ix2 r k) = BitVec.ofNat 32 c.val) :
    remd q (ix2 r k) = BitVec.ofNat 32 (c.val % 8) := by
  pointwise [remd, eight, k0_pay95]
  rw [hc]
  clear hc
  revert c
  decide

theorem pick_row (a q : IVec (Mat 256 8) 32) (r : Fin 256) (k c : Fin 8) (hc : q (ix2 r k) = BitVec.ofNat 32 c.val) :
    pick a q (ix2 r k) = a (ix2 r c) := by
  pointwise [pick, chain8, pickOne]
  simp only [wcol_row, hc]
  fin_cases c <;> simp [select_eq, IntOp.addi]

theorem spread_row (fi : IVec (Mat 256 8) 32) (w : FVec Ideal (Mat 256 8) .f32) (r : Fin 256) (i : Fin 2304) :
    spread fi w (ix2 r i) = ∑ k : Fin 8, if BitVec.ofNat 32 i.val = fi (ix2 r k) then (w (ix2 r k) : EReal) else 0 := by
  pointwise [spread, chain8, spreadOne]
  simp only [wcol_row, wide_row, col_row, select_eq, Fin.sum_univ_eight]

end Cert.Proof.Rows
-- ==== Proof.HeadRow.lean ====
/- One head's contribution read at one entry. -/
module

public import proofs.«01_k».proof.Proof.Body
public import proofs.«01_k».proof.Proof.Rows

@[expose] public section

set_option maxRecDepth 16384

noncomputable section

namespace Cert.Proof.HeadRow

open Idealize.ShloMosaic Cert.KernelIdeal Cert.KernelIdeal.Gen Cert.Proof.Rank Cert.Proof.Rounds Cert.Proof.Stages Cert.Proof.Rows
  Cert.Proof.Body Cert.Proof.Spec

section

variable (lf rf : FVec Ideal (Mat 256 256) .f32) (r : Fin 256) (hl : ∀ i, Finite (lf (ix2 r i))) (hr : ∀ i, Finite (rf (ix2 r i)))

include hl hr

theorem cross_row (j : Fin 64) : crossSum (topVals (n := 256) lf) (topVals (n := 256) rf) (ix2 r j)
    = sums (fun i => lf (ix2 r i)) (fun i => rf (ix2 r i)) j := by
  rw [crossSum_row _ _ r ⟨j.val / 8, by omega⟩ ⟨j.val % 8, by omega⟩ j (by simp only; omega)]
  rw [topVals_row (by decide) (by decide) lf r (fun i => (hl i).1), topVals_row (by decide) (by decide) rf r (fun i => (hr i).1)]
  rfl

theorem crossVals_row (k : Fin 8) : topVals (n := 64) (crossSum (topVals (n := 256) lf) (topVals (n := 256) rf)) (ix2 r k)
    = sums (fun i => lf (ix2 r i)) (fun i => rf (ix2 r i)) (best (fun i => lf (ix2 r i)) (fun i => rf (ix2 r i)) k) := by
  have h := cross_row lf rf r hl hr
  rw [topVals_row (by decide) (by decide) _ r (fun j => by rw [h]; exact (sums_finite _ _ hl hr j).1)]
  simp only [h]
  rfl

theorem crossArgs_row (k : Fin 8) : topArgs (n := 64) (crossSum (topVals (n := 256) lf) (topVals (n := 256) rf)) (ix2 r k)
    = BitVec.ofNat 32 (best (fun i => lf (ix2 r i)) (fun i => rf (ix2 r i)) k).val := by
  have h := cross_row lf rf r hl hr
  rw [topArgs_row (by decide) (by decide) _ r (fun j => by rw [h]; exact (sums_finite _ _ hl hr j).1)]
  simp only [h]
  rfl

theorem soft_row (k : Fin 8) : softRow (topVals (n := 64) (crossSum (topVals (n := 256) lf) (topVals (n := 256) rf))) (ix2 r k)
    = score (fun i => lf (ix2 r i)) (fun i => rf (ix2 r i)) k := by
  rw [softRow_row]
  simp only [crossVals_row lf rf r hl hr]
  rfl

end

section

variable (x1 : Vec Ideal S256x1024 .bf16) (x3 : Vec Ideal S1x512x1024 .bf16) (x4 x5 : Vec Ideal S256x512 .bf16)
  (x6 : Vec Ideal S1x1024x1024 .bf16) (x7 x8 : Vec Ideal S2304x1024 .bf16) (r : Fin 256)

/-- The left scores of one token. -/
def sl (i : Fin 256) : EReal := k0_pay5 x1 x3 x4 (ix2 r i)
/-- The right scores of one token. -/
def sr (i : Fin 256) : EReal := k0_pay6 x1 x3 x5 (ix2 r i)
/-- The inner product of the token's key with a row of the first table. -/
def key (i : Fin 2304) : EReal := k0_pay108 x1 x6 x7 (ix2 r i)

theorem sl_eq (i : Fin 256) : sl x1 x3 x4 r i = ∑ d : Fin 512, (∑ j : Fin 1024, x1 (ix2 r j) * x3 (ix3 0 d j) : EReal) * x4 (ix2 i d) := by
  pointwise [sl, k0_pay5, k0_pay4]
theorem sr_eq (i : Fin 256) : sr x1 x3 x5 r i = ∑ d : Fin 512, (∑ j : Fin 1024, x1 (ix2 r j) * x3 (ix3 0 d j) : EReal) * x5 (ix2 i d) := by
  pointwise [sr, k0_pay6, k0_pay4]
theorem key_eq (i : Fin 2304) : key x1 x6 x7 r i = ∑ d : Fin 1024, (∑ j : Fin 1024, x1 (ix2 r j) * x6 (ix3 0 d j) : EReal) * x7 (ix2 i d) := by
  pointwise [key, k0_pay108]

variable (hl : ∀ i, Finite (sl x1 x3 x4 r i)) (hr : ∀ i, Finite (sr x1 x3 x5 r i))

include hl hr

theorem headRows_row (k : Fin 8) : headRows x1 x3 x4 x5 (ix2 r k) = BitVec.ofNat 32 (row (sl x1 x3 x4 r) (sr x1 x3 x5 r) k).val := by
  have hc := crossArgs_row _ _ r hl hr k
  have h1 := quot_row _ r k _ hc
  have h2 := remd_row _ r k _ hc
  show IntOp.addi (IntOp.muli (pick _ _ (ix2 r k)) 8#32) (pick _ _ (ix2 r k)) = _
  rw [pick_row _ _ r k ⟨_, by omega⟩ h1, pick_row _ _ r k ⟨_, by omega⟩ h2]
  rw [topArgs_row (by decide) (by decide) _ r (fun i => (hl i).1), topArgs_row (by decide) (by decide) _ r (fun i => (hr i).1)]
  unfold IntOp.addi IntOp.muli row
  rw [BitVec.ofNat_add, BitVec.ofNat_mul]
  rfl

theorem headWeights_row (k : Fin 8) : headWeights x1 x3 x4 x5 x6 x7 (ix2 r k)
    = score (sl x1 x3 x4 r) (sr x1 x3 x5 r) k
      * gelu (key x1 x6 x7 r ((row (sl x1 x3 x4 r) (sr x1 x3 x5 r) k).castLE (by decide))) := by
  show (softRow _ (ix2 r k) : EReal) * geluK _ (ix2 r k) = _
  rw [geluK_row, cat8_row, soft_row _ _ r hl hr,
    hitCol_row _ _ k r ((row (sl x1 x3 x4 r) (sr x1 x3 x5 r) k).castLE (by decide)) (headRows_row x1 x3 x4 x5 r hl hr k)]
  rfl

/-- One head's contribution at one entry is the weighted sum of the rows that the row numbers name. -/
theorem head_row (e : Fin 1024) : head x1 x3 x4 x5 x6 x7 x8 (ix2 r e)
    = mix (sl x1 x3 x4 r) (sr x1 x3 x5 r) (fun i => key x1 x6 x7 r (i.castLE (by decide))) (fun i => x8 (ix2 (i.castLE (by decide)) e)) := by
  rw [head_eq]
  pointwise []
  simp only [spread_row, headRows_row x1 x3 x4 x5 r hl hr, headWeights_row x1 x3 x4 x5 x6 x7 r hl hr]
  have hb : ∀ (i : Fin 2304) (k : Fin 8), BitVec.ofNat 32 i.val = BitVec.ofNat 32 (row (sl x1 x3 x4 r) (sr x1 x3 x5 r) k).val
      ↔ i = (row (sl x1 x3 x4 r) (sr x1 x3 x5 r) k).castLE (by decide) := by
    intro i k
    have hk := (row (sl x1 x3 x4 r) (sr x1 x3 x5 r) k).isLt
    refine ⟨fun h => Fin.ext ?_, fun h => by rw [h]; rfl⟩
    have h1 := congrArg BitVec.toNat h
    rwa [BitVec.toNat_ofNat, BitVec.toNat_ofNat, Nat.mod_eq_of_lt (by omega), Nat.mod_eq_of_lt (by omega)] at h1
  simp only [hb]
  exact spread_mul (fun k => (row (sl x1 x3 x4 r) (sr x1 x3 x5 r) k).castLE (by decide)) (score (sl x1 x3 x4 r) (sr x1 x3 x5 r))
    (score_nonneg _ _ hl hr) (fun i => gelu (key x1 x6 x7 r i)) (fun i => x8 (ix2 i e))

end

end Cert.Proof.HeadRow
-- ==== Proof.Blocks.lean ====
/- The blocks a grid point loads, as entries of the arguments. -/
module

public import proofs.«01_k».proof.Proof.Gen.KernelIdeal.Value
public import Idealize.ShloMosaic.Lib.Pipeline.ValueKit
public import Idealize.ShloMosaic.Lib.Pointwise

@[expose] public section

set_option maxRecDepth 16384

noncomputable section

namespace Cert.Proof.Blocks

open Cert.KernelIdeal Cert.KernelIdeal.Gen Idealize.ShloMosaic Idealize.ShloMosaic.TcCoe Idealize.SL.Sem

/-- The block each window reads at a point: the token block is the point's number over eight, the head the remainder. -/
theorem idx : ∀ t : Fin cfg0.N, win0_0.index t = ![t.val / 8, 0] ∧ win0_1.index t = ![t.val / 8, 0] ∧ win0_2.index t = ![0, 0]
    ∧ win0_3.index t = ![t.val % 8, 0, 0] ∧ win0_4.index t = ![0, 0] ∧ win0_5.index t = ![0, 0]
    ∧ win0_6.index t = ![t.val % 8, 0, 0] ∧ win0_7.index t = ![0, 0] ∧ win0_8.index t = ![0, 0] ∧ win0_9.index t = ![t.val / 8, 0] :=
  (by decide +kernel : ∀ t : Fin grid0.N, _)

theorem lt64 (t : Fin cfg0.N) : t.val < 64 := lt_of_lt_of_eq t.isLt N_0

variable (m : (ℓ : Loc nD τ sig) → Buf (Elt Ideal) ℓ) (c : Dev nD)

theorem rows0 (x : S1x2048x1024.Idx → EReal) (n : Fin 2048) (j : Fin 1024) :
    shapeCast S2048x1024 x shapeCasts_S1x2048x1024_S2048x1024 (ix2 n j) = x (ix3 0 n j) := by
  pointwise []

theorem rows3 (x : S4096x1024.Idx → EReal) (h : Fin 8) (d : Fin 512) (j : Fin 1024) (n : Fin 4096) (hn : n.val = 512 * h.val + d.val) :
    shapeCast S8x512x1024 x shapeCasts_S4096x1024_S8x512x1024 (ix3 h d j) = x (ix2 n j) := by
  pointwise []
  blk_ext

theorem rows6 (x : S8192x1024.Idx → EReal) (h : Fin 8) (d j : Fin 1024) (n : Fin 8192) (hn : n.val = 1024 * h.val + d.val) :
    shapeCast S8x1024x1024 x shapeCasts_S8192x1024_S8x1024x1024 (ix3 h d j) = x (ix2 n j) := by
  pointwise []
  blk_ext

theorem V_v0 : V m c main_v0 = (shapeCast S2048x1024 (m ((c : Thread nD τ).loc main_arg0)) shapeCasts_S1x2048x1024_S2048x1024 : Vec Ideal S2048x1024 .f32) := by
  unfold V
  simp only [hostOps0, hostOps0_1, hostOps0_2, hostOps0_3, List.flatten_cons, List.flatten_nil, List.append_nil, List.cons_append,
    List.nil_append]
  after_results
  rfl

theorem V_v1 : V m c main_v1 = (truncf (F := Ideal) .bf16 (shapeCast S2048x1024 (m ((c : Thread nD τ).loc main_arg0)) shapeCasts_S1x2048x1024_S2048x1024 : FVec Ideal S2048x1024 .f32) bitsLt_bf16_f32 : Vec Ideal S2048x1024 .bf16) := by
  unfold V
  simp only [hostOps0, hostOps0_1, hostOps0_2, hostOps0_3, List.flatten_cons, List.flatten_nil, List.append_nil, List.cons_append,
    List.nil_append]
  after_results
  rfl

theorem V_v3 : V m c main_v3 = (truncf (F := Ideal) .bf16 (shapeCast S8x512x1024 (m ((c : Thread nD τ).loc main_arg2)) shapeCasts_S4096x1024_S8x512x1024 : FVec Ideal S8x512x1024 .f32) bitsLt_bf16_f32 : Vec Ideal S8x512x1024 .bf16) := by
  unfold V
  simp only [hostOps0, hostOps0_1, hostOps0_2, hostOps0_3, List.flatten_cons, List.flatten_nil, List.append_nil, List.cons_append,
    List.nil_append]
  after_results
  rfl

theorem V_v5 : V m c main_v5 = (truncf (F := Ideal) .bf16 (shapeCast S8x1024x1024 (m ((c : Thread nD τ).loc main_arg3)) shapeCasts_S8192x1024_S8x1024x1024 : FVec Ideal S8x1024x1024 .f32) bitsLt_bf16_f32 : Vec Ideal S8x1024x1024 .bf16) := by
  unfold V
  simp only [hostOps0, hostOps0_1, hostOps0_2, hostOps0_3, List.flatten_cons, List.flatten_nil, List.append_nil, List.cons_append,
    List.nil_append]
  after_results
  rfl

theorem V_v10 : V m c main_v10 = (pad S2304x1024 ![0, 0] ![8, 0] ![0, 0]
      (truncf (F := Ideal) .bf16 (extractStridedSlice S2296x1024 ![0, 0] (m ((c : Thread nD τ).loc main_arg6)) slices_S65536x1024_S2296x1024_0_0 : FVec Ideal S2296x1024 .f32) bitsLt_bf16_f32)
      (sitofp (F := Ideal) .bf16 (constantI S_ 32 0#32)) pads_S2296x1024_S2304x1024_080_000 h_S_ : Vec Ideal S2304x1024 .bf16) := by
  unfold V
  simp only [hostOps0, hostOps0_1, hostOps0_2, hostOps0_3, List.flatten_cons, List.flatten_nil, List.append_nil, List.cons_append,
    List.nil_append]
  after_results
  rfl

theorem V_v13 : V m c main_v13 = (pad S2304x1024 ![0, 0] ![8, 0] ![0, 0]
      (truncf (F := Ideal) .bf16 (extractStridedSlice S2296x1024 ![0, 0] (m ((c : Thread nD τ).loc main_arg7)) slices_S65536x1024_S2296x1024_0_0 : FVec Ideal S2296x1024 .f32) bitsLt_bf16_f32)
      (sitofp (F := Ideal) .bf16 (constantI S_ 32 0#32)) pads_S2296x1024_S2304x1024_080_000 h_S_ : Vec Ideal S2304x1024 .bf16) := by
  unfold V
  simp only [hostOps0, hostOps0_1, hostOps0_2, hostOps0_3, List.flatten_cons, List.flatten_nil, List.append_nil, List.cons_append,
    List.nil_append]
  after_results
  rfl

variable (t : Fin cfg0.N)

theorem block0 (r : Fin 256) (j : Fin 1024) (n : Fin 2048) (hn : n.val = 256 * (t.val / 8) + r.val) :
    (iblk m c 0 t (ix2 r j) : EReal) = m ((c : Thread nD τ).loc main_arg0) (ix3 0 n j) := by
  unfold iblk
  have h : ((cfg0.win 0).blk t).view.emb (ix2 r j) = (ix2 n j) := by blk_ext [idx t]
  show V m c main_v0 (((cfg0.win 0).blk t).view.emb (ix2 r j)) = _
  rw [h, V_v0]
  exact rows0 _ n j

theorem block1 (r : Fin 256) (j : Fin 1024) (n : Fin 2048) (hn : n.val = 256 * (t.val / 8) + r.val) :
    (iblk m c 1 t (ix2 r j) : EReal) = m ((c : Thread nD τ).loc main_arg0) (ix3 0 n j) := by
  unfold iblk
  have h : ((cfg0.win 1).blk t).view.emb (ix2 r j) = (ix2 n j) := by blk_ext [idx t]
  show V m c main_v1 (((cfg0.win 1).blk t).view.emb (ix2 r j)) = _
  rw [h, V_v1]
  exact rows0 _ n j

theorem block2 (e j : Fin 1024) : (iblk m c 2 t (ix2 e j) : EReal) = m ((c : Thread nD τ).loc main_arg1) (ix2 e j) := by
  blk_point [iblk, V, idx t]

theorem block3 (d : Fin 512) (j : Fin 1024) (n : Fin 4096) (hn : n.val = 512 * (t.val % 8) + d.val) :
    (iblk m c 3 t (ix3 0 d j) : EReal) = m ((c : Thread nD τ).loc main_arg2) (ix2 n j) := by
  unfold iblk
  have h : ((cfg0.win 3).blk t).view.emb (ix3 0 d j) = (ix3 ⟨t.val % 8, Nat.mod_lt _ (by decide)⟩ d j) := by blk_ext [idx t]
  show V m c main_v3 (((cfg0.win 3).blk t).view.emb (ix3 0 d j)) = _
  rw [h, V_v3]
  exact rows3 _ ⟨t.val % 8, Nat.mod_lt _ (by decide)⟩ d j n hn

theorem block4 (i : Fin 256) (d : Fin 512) : (iblk m c 4 t (ix2 i d) : EReal) = m ((c : Thread nD τ).loc main_arg4) (ix2 i d) := by
  blk_point [iblk, V, idx t]

theorem block5 (i : Fin 256) (d : Fin 512) : (iblk m c 5 t (ix2 i d) : EReal) = m ((c : Thread nD τ).loc main_arg5) (ix2 i d) := by
  blk_point [iblk, V, idx t]

theorem block6 (d j : Fin 1024) (n : Fin 8192) (hn : n.val = 1024 * (t.val % 8) + d.val) :
    (iblk m c 6 t (ix3 0 d j) : EReal) = m ((c : Thread nD τ).loc main_arg3) (ix2 n j) := by
  unfold iblk
  have h : ((cfg0.win 6).blk t).view.emb (ix3 0 d j) = (ix3 ⟨t.val % 8, Nat.mod_lt _ (by decide)⟩ d j) := by blk_ext [idx t]
  show V m c main_v5 (((cfg0.win 6).blk t).view.emb (ix3 0 d j)) = _
  rw [h, V_v5]
  exact rows6 _ ⟨t.val % 8, Nat.mod_lt _ (by decide)⟩ d j n hn

theorem block7 (i : Fin 2304) (d : Fin 1024) (n : Fin 65536) (hn : n.val = i.val) (hi : i.val < 2296) :
    (iblk m c 7 t (ix2 i d) : EReal) = m ((c : Thread nD τ).loc main_arg6) (ix2 n d) := by
  unfold iblk
  have h : ((cfg0.win 7).blk t).view.emb (ix2 i d) = (ix2 i d) := by blk_ext [idx t]
  show V m c main_v10 (((cfg0.win 7).blk t).view.emb (ix2 i d)) = _
  rw [h, V_v10]
  pointwise []
  rw [dif_pos hi]
  blk_ext

theorem block8 (i : Fin 2304) (d : Fin 1024) (n : Fin 65536) (hn : n.val = i.val) (hi : i.val < 2296) :
    (iblk m c 8 t (ix2 i d) : EReal) = m ((c : Thread nD τ).loc main_arg7) (ix2 n d) := by
  unfold iblk
  have h : ((cfg0.win 8).blk t).view.emb (ix2 i d) = (ix2 i d) := by blk_ext [idx t]
  show V m c main_v13 (((cfg0.win 8).blk t).view.emb (ix2 i d)) = _
  rw [h, V_v13]
  pointwise []
  rw [dif_pos hi]
  blk_ext

end Cert.Proof.Blocks
-- ==== Proof.Model.lean ====
/- The whole computation as plain mathematics over the eight arguments. -/
module

public import proofs.«01_k».proof.Proof.Spec

@[expose] public section

noncomputable section

namespace Cert.Proof.Model

open Idealize.ShloMosaic Cert.Proof.Rounds Cert.Proof.Spec

/-- The row of head `h`'s `d`-th query weight. -/
def qrow (h : Fin 8) (d : Fin 512) : Fin 4096 := ⟨512 * h.val + d.val, by omega⟩

/-- The row of head `h`'s `d`-th key weight. -/
def krow (h : Fin 8) (d : Fin 1024) : Fin 8192 := ⟨1024 * h.val + d.val, by omega⟩

variable (a0 : (⟨3, ![1, 2048, 1024]⟩ : Shape).Idx → EReal) (a1 : (Mat 1024 1024).Idx → EReal) (a2 : (Mat 4096 1024).Idx → EReal)
  (a3 : (Mat 8192 1024).Idx → EReal) (a4 a5 : (Mat 256 512).Idx → EReal) (a6 a7 : (Mat 65536 1024).Idx → EReal)

/-- Entry `d` of token `n`'s query in head `h`. -/
def query (n : Fin 2048) (h : Fin 8) (d : Fin 512) : EReal := ∑ j : Fin 1024, a0 (ix3 0 n j) * a2 (ix2 (qrow h d) j)

/-- The scores of token `n` in head `h` against the rows of `b` (the left or the right codebook). -/
def scores (b : (Mat 256 512).Idx → EReal) (n : Fin 2048) (h : Fin 8) (i : Fin 256) : EReal :=
  ∑ d : Fin 512, query a0 a2 n h d * b (ix2 i d)

/-- Entry `d` of token `n`'s key in head `h`. -/
def key (n : Fin 2048) (h : Fin 8) (d : Fin 1024) : EReal := ∑ j : Fin 1024, a0 (ix3 0 n j) * a3 (ix2 (krow h d) j)

/-- The inner product of that key with row `i` of the first table. -/
def inner (n : Fin 2048) (h : Fin 8) (i : Fin 2296) : EReal := ∑ d : Fin 1024, key a0 a3 n h d * a6 (ix2 (i.castLE (by decide)) d)

/-- Head `h`'s contribution to entry `e` of token `n`. -/
def part (n : Fin 2048) (h : Fin 8) (e : Fin 1024) : EReal :=
  mix (scores a0 a2 a4 n h) (scores a0 a2 a5 n h) (inner a0 a3 a6 n h) (fun i => a7 (ix2 (i.castLE (by decide)) e))

/-- The residual projection. -/
def residual (n : Fin 2048) (e : Fin 1024) : EReal := ∑ j : Fin 1024, a0 (ix3 0 n j) * a1 (ix2 e j)

/-- The result. -/
def total (n : Fin 2048) (e : Fin 1024) : EReal := residual a0 a1 n e + ∑ h : Fin 8, part a0 a2 a3 a4 a5 a6 a7 n h e

theorem query_finite (h0 : ∀ i, Finite (a0 i)) (h2 : ∀ i, Finite (a2 i)) (n : Fin 2048) (h : Fin 8) (d : Fin 512) :
    Finite (query a0 a2 n h d) := Finite.sum _ fun _ _ => (h0 _).mul (h2 _)

theorem scores_finite (h0 : ∀ i, Finite (a0 i)) (h2 : ∀ i, Finite (a2 i)) (b : (Mat 256 512).Idx → EReal) (hb : ∀ i, Finite (b i))
    (n : Fin 2048) (h : Fin 8) (i : Fin 256) : Finite (scores a0 a2 b n h i) :=
  Finite.sum _ fun d _ => (query_finite a0 a2 h0 h2 n h d).mul (hb _)

end Cert.Proof.Model
-- ==== Proof.KernelArray.lean ====
/- The kernel's result array is the whole computation's result. -/
module

public import proofs.«01_k».proof.Proof.HeadRow
public import proofs.«01_k».proof.Proof.Blocks
public import proofs.«01_k».proof.Proof.Model

@[expose] public section

set_option maxRecDepth 16384

noncomputable section

namespace Cert.Proof.KernelArray

open Cert.KernelIdeal Cert.KernelIdeal.Gen Idealize.ShloMosaic Idealize.ShloMosaic.TcCoe Idealize.SL.Sem Cert.Proof.Spec Cert.Proof.Rounds
open Cert.Proof

variable (m : (ℓ : Loc nD τ sig) → Buf (Elt Ideal) ℓ) (c : Dev nD)

/-- The arguments as arrays of extended reals. -/
abbrev a0 : S1x2048x1024.Idx → EReal := m ((c : Thread nD τ).loc main_arg0)
abbrev a1 : S1024x1024.Idx → EReal := m ((c : Thread nD τ).loc main_arg1)
abbrev a2 : S4096x1024.Idx → EReal := m ((c : Thread nD τ).loc main_arg2)
abbrev a3 : S8192x1024.Idx → EReal := m ((c : Thread nD τ).loc main_arg3)
abbrev a4 : S256x512.Idx → EReal := m ((c : Thread nD τ).loc main_arg4)
abbrev a5 : S256x512.Idx → EReal := m ((c : Thread nD τ).loc main_arg5)
abbrev a6 : S65536x1024.Idx → EReal := m ((c : Thread nD τ).loc main_arg6)
abbrev a7 : S65536x1024.Idx → EReal := m ((c : Thread nD τ).loc main_arg7)

section Point

variable (t : Fin cfg0.N) (r : Fin 256) (n : Fin 2048) (hn : n.val = 256 * (t.val / 8) + r.val)

/-- The head a point computes. -/
def hd : Fin 8 := ⟨t.val % 8, Nat.mod_lt _ (by decide)⟩

include hn

theorem sl_model : HeadRow.sl (iblk m c 1 t) (iblk m c 3 t) (iblk m c 4 t) r = Model.scores (a0 m c) (a2 m c) (a4 m c) n (hd t) := by
  funext i
  rw [HeadRow.sl_eq]
  refine Finset.sum_congr rfl fun d _ => congrArg₂ (· * ·) (Finset.sum_congr rfl fun j _ => congrArg₂ (· * ·) ?_ ?_) ?_
  · exact Blocks.block1 m c t r j n hn
  · exact Blocks.block3 m c t d j _ rfl
  · exact Blocks.block4 m c t i d

theorem sr_model : HeadRow.sr (iblk m c 1 t) (iblk m c 3 t) (iblk m c 5 t) r = Model.scores (a0 m c) (a2 m c) (a5 m c) n (hd t) := by
  funext i
  rw [HeadRow.sr_eq]
  refine Finset.sum_congr rfl fun d _ => congrArg₂ (· * ·) (Finset.sum_congr rfl fun j _ => congrArg₂ (· * ·) ?_ ?_) ?_
  · exact Blocks.block1 m c t r j n hn
  · exact Blocks.block3 m c t d j _ rfl
  · exact Blocks.block5 m c t i d

theorem key_model (i : Fin 2296) : HeadRow.key (iblk m c 1 t) (iblk m c 6 t) (iblk m c 7 t) r (i.castLE (by decide))
    = Model.inner (a0 m c) (a3 m c) (a6 m c) n (hd t) i := by
  rw [HeadRow.key_eq]
  refine Finset.sum_congr rfl fun d _ => congrArg₂ (· * ·) (Finset.sum_congr rfl fun j _ => congrArg₂ (· * ·) ?_ ?_) ?_
  · exact Blocks.block1 m c t r j n hn
  · exact Blocks.block6 m c t d j _ rfl
  · exact Blocks.block7 m c t (i.castLE (by decide)) d _ rfl i.isLt

variable (h0 : ∀ i, Finite (a0 m c i)) (h2 : ∀ i, Finite (a2 m c i)) (h4 : ∀ i, Finite (a4 m c i)) (h5 : ∀ i, Finite (a5 m c i))

include h0 h2 h4 h5

theorem head_model (e : Fin 1024) :
    (Body.head (iblk m c 1 t) (iblk m c 3 t) (iblk m c 4 t) (iblk m c 5 t) (iblk m c 6 t) (iblk m c 7 t) (iblk m c 8 t) (ix2 r e) : EReal)
      = Model.part (a0 m c) (a2 m c) (a3 m c) (a4 m c) (a5 m c) (a6 m c) (a7 m c) n (hd t) e := by
  have el := sl_model m c t r n hn
  have er := sr_model m c t r n hn
  rw [HeadRow.head_row _ _ _ _ _ _ _ r (fun i => by rw [el]; exact Model.scores_finite _ _ h0 h2 _ h4 _ _ _)
    (fun i => by rw [er]; exact Model.scores_finite _ _ h0 h2 _ h5 _ _ _) e, el, er]
  unfold Model.part
  congr 1
  · funext i
    exact key_model m c t r n hn i
  · funext i
    exact Blocks.block8 m c t (i.castLE (by decide)) e _ rfl i.isLt

end Point

theorem residual_model (t : Fin cfg0.N) (r : Fin 256) (n : Fin 2048) (hn : n.val = 256 * (t.val / 8) + r.val) (e : Fin 1024) :
    (matmul (F := Ideal) (φ₁ := .f32) (φ₂ := .f32) dot_S256x1024_S1024x1024_S256x1024_1_1_0_0_n_n none
      (shapeCast S256x1024 (iblk m c 0 t) shapeCasts_S256x1024_S256x1024) (iblk m c 2 t) (constant S256x1024 .f32 0x00000000#32) (ix2 r e) : EReal)
      = Model.residual (a0 m c) (a1 m c) n e := by
  have h : ∀ (x : FVec Ideal S256x1024 .f32) (y : FVec Ideal S1024x1024 .f32),
      (matmul (F := Ideal) (φ₁ := .f32) (φ₂ := .f32) dot_S256x1024_S1024x1024_S256x1024_1_1_0_0_n_n none
        (shapeCast S256x1024 x shapeCasts_S256x1024_S256x1024) y (constant S256x1024 .f32 0x00000000#32) (ix2 r e) : EReal)
        = ∑ j : Fin 1024, x (ix2 r j) * y (ix2 e j) := by
    intro x y
    pointwise []
  refine (h _ _).trans (Finset.sum_congr rfl fun j _ => congrArg₂ (· * ·) ?_ ?_)
  · exact Blocks.block0 m c t r j n hn
  · exact Blocks.block2 m c t e j

variable (h0 : ∀ i, Finite (a0 m c i)) (h2 : ∀ i, Finite (a2 m c i)) (h4 : ∀ i, Finite (a4 m c i)) (h5 : ∀ i, Finite (a5 m c i))

include h0 h2 h4 h5

/-- After a point the block holds the residual projection plus the contributions of the heads so far. -/
theorem acc (r : Fin 256) (e : Fin 1024) : ∀ (k : ℕ) (hk : k < cfg0.N) (n : Fin 2048) (_ : n.val = 256 * (k / 8) + r.val),
    (outsAt0 m c k hk (ix2 r e) : EReal) = Model.residual (a0 m c) (a1 m c) n e
      + ∑ h ∈ Finset.univ.filter (fun h : Fin 8 => h.val ≤ k % 8),
          Model.part (a0 m c) (a2 m c) (a3 m c) (a4 m c) (a5 m c) (a6 m c) (a7 m c) n h e := by
  intro k
  induction k with
  | zero =>
    intro hk n hn
    rw [Body.first m c ⟨0, hk⟩ rfl (by show ¬ 1 ≤ 0 % 8; decide)]
    refine (congrArg₂ (· + ·) (residual_model m c ⟨0, hk⟩ r n hn e) (head_model m c ⟨0, hk⟩ r n hn h0 h2 h4 h5 e)).trans ?_
    rw [show (Finset.univ.filter fun h : Fin 8 => h.val ≤ 0 % 8) = {hd ⟨0, hk⟩} from by
      ext h
      simp only [Finset.mem_filter, Finset.mem_univ, true_and, Finset.mem_singleton, hd, Fin.ext_iff]
      omega, Finset.sum_singleton]
  | succ k ih =>
    intro hk n hn
    have hN := Blocks.lt64 ⟨k + 1, hk⟩
    by_cases hz : (k + 1) % 8 = 0
    · rw [Body.first m c ⟨k + 1, hk⟩ hz (by show ¬ 1 ≤ (k + 1) % 8; omega)]
      refine (congrArg₂ (· + ·) (residual_model m c ⟨k + 1, hk⟩ r n hn e) (head_model m c ⟨k + 1, hk⟩ r n hn h0 h2 h4 h5 e)).trans ?_
      rw [show (Finset.univ.filter fun h : Fin 8 => h.val ≤ (k + 1) % 8) = {hd ⟨k + 1, hk⟩} from by
        ext h
        simp only [Finset.mem_filter, Finset.mem_univ, true_and, Finset.mem_singleton, hd, Fin.ext_iff]
        omega, Finset.sum_singleton]
    · rw [Body.later m c ⟨k + 1, hk⟩ hz (by show 1 ≤ (k + 1) % 8; omega)]
      have hs : ∀ x : FVec Ideal S256x1024 .f32, shapeCast S256x1024 x shapeCasts_S256x1024_S256x1024 (ix2 r e) = x (ix2 r e) := by
        intro x; pointwise []
      refine (congrArg₂ (· + ·) ((hs _).trans (ih (by omega) n (by omega)))
        (head_model m c ⟨k + 1, hk⟩ r n hn h0 h2 h4 h5 e)).trans ?_
      rw [show (Finset.univ.filter fun h : Fin 8 => h.val ≤ (k + 1) % 8)
          = insert (hd ⟨k + 1, hk⟩) (Finset.univ.filter fun h : Fin 8 => h.val ≤ k % 8) from by
        ext h
        simp only [Finset.mem_filter, Finset.mem_univ, true_and, Finset.mem_insert, hd, Fin.ext_iff]
        omega, Finset.sum_insert (by
        simp only [Finset.mem_filter, Finset.mem_univ, true_and, hd]
        omega)]
      rw [add_assoc, add_comm (Finset.sum _ _)]

/-- The kernel's result array. -/
theorem final : ((dats m 0 c).arrAt 9 cfg0.N : S2048x1024.Idx → EReal)
    = fun i => Model.total (a0 m c) (a1 m c) (a2 m c) (a3 m c) (a4 m c) (a5 m c) (a6 m c) (a7 m c) (i 0) (i 1) := by
  refine (dats m 0 c).arrAt_eq_of_covers 9 _ (by decide +kernel) fun t hf y => ?_
  have h7 := (flush0_9 t).mp hf
  blk_simp
  rw [after0_9]
  obtain ⟨r, e, rfl⟩ : ∃ (r : Fin 256) (e : Fin 1024), y = ix2 r e := ⟨y 0, y 1, by blk_ext⟩
  have hN := Blocks.lt64 t
  have hr := r.isLt
  have h : (win0_9.blk t).view.emb (ix2 r e) = ix2 (⟨256 * (t.val / 8) + r.val, by omega⟩ : Fin 2048) e := by
    blk_ext [Blocks.idx t]
  rw [h]
  refine (acc m c h0 h2 h4 h5 r e t.val t.isLt ⟨256 * (t.val / 8) + r.val, by omega⟩ rfl).trans ?_
  rw [h7, Finset.filter_true_of_mem fun h _ => by omega]
  rfl

end Cert.Proof.KernelArray
-- ==== Proof.RefOps.lean ====
/- The reference's operations read at an index: its products, top-k, gathers and index words. -/
module

public import proofs.«01_k».proof.Proof.Model
public import proofs.«01_k».proof.Proof.Gen.ReferenceIdeal.Run
public import Idealize.ShloMosaic.Lib.Pipeline.ValueKit
public import Idealize.ShloMosaic.Lib.ReduceAll

@[expose] public section

set_option maxRecDepth 16384

noncomputable section

namespace Cert.Proof.RefOps

open Cert.ReferenceIdeal Cert.ReferenceIdeal.Gen Idealize.ShloMosaic Idealize.ShloMosaic.TcCoe Cert.Proof.Spec Cert.Proof.Rounds Cert.Proof.Rank
open Cert.Proof

/-! ## Products -/

/-- The queries. -/
theorem query_at (a0 : FVec Ideal S1x2048x1024 .f32) (a2 : FVec Ideal S4096x1024 .f32) (n : Fin 2048) (h : Fin 8) (d : Fin 512) :
    shapeCast S1x2048x8x512 (Host.dotGeneral dot_S1x2048x1024_S1024x4096_S1x2048x4096_2_0_01_1_n_n none a0
      (transpose S1024x4096 [1, 0] a2 transposes_S4096x1024_S1024x4096_1_0)) shapeCasts_S1x2048x4096_S1x2048x8x512 (ix4 0 n h d)
      = Model.query a0 a2 n h d := by
  pointwise []
  refine Finset.sum_congr rfl fun j _ => congrArg₂ (· * ·) rfl (congrArg a2 ?_)
  exact congrArg (fun r => ix2 r j) (Fin.ext (by show h.val * 512 + d.val = 512 * h.val + d.val; omega))

/-- The keys. -/
theorem key_at (a0 : FVec Ideal S1x2048x1024 .f32) (a3 : FVec Ideal S8192x1024 .f32) (n : Fin 2048) (h : Fin 8) (d : Fin 1024) :
    shapeCast S1x2048x8x1024 (Host.dotGeneral dot_S1x2048x1024_S1024x8192_S1x2048x8192_2_0_01_1_n_n none a0
      (transpose S1024x8192 [1, 0] a3 transposes_S8192x1024_S1024x8192_1_0)) shapeCasts_S1x2048x8192_S1x2048x8x1024 (ix4 0 n h d)
      = Model.key a0 a3 n h d := by
  pointwise []
  refine Finset.sum_congr rfl fun j _ => congrArg₂ (· * ·) rfl (congrArg a3 ?_)
  exact congrArg (fun r => ix2 r j) (Fin.ext (by show h.val * 1024 + d.val = 1024 * h.val + d.val; omega))

/-- The residual projection. -/
theorem residual_at (a0 : FVec Ideal S1x2048x1024 .f32) (a1 : FVec Ideal S1024x1024 .f32) (n : Fin 2048) (e : Fin 1024) :
    Host.dotGeneral dot_S1x2048x1024_S1024x1024_S1x2048x1024_2_0_01_1_n_n none a0
      (transpose S1024x1024 [1, 0] a1 transposes_S1024x1024_S1024x1024_1_0) (ix3 0 n e) = Model.residual a0 a1 n e := by
  pointwise []
  rfl

/-- The scores against one codebook. -/
theorem score_at (x : FVec Ideal S1x2048x8x512 .f32) (b : FVec Ideal S256x512 .f32) (n : Fin 2048) (h : Fin 8) (i : Fin 256) :
    Host.dotGeneral dot_S1x2048x8x512_S512x256_S1x2048x8x256_3_0_012_1_n_n none x
      (transpose S512x256 [1, 0] b transposes_S256x512_S512x256_1_0) (ix4 0 n h i) = ∑ d : Fin 512, x (ix4 0 n h d) * b (ix2 i d) := by
  pointwise []

/-- The inner products of the gathered rows with the keys. -/
theorem inner_at (x : FVec Ideal S1x2048x8x8x1024 .f32) (y : FVec Ideal S1x2048x8x1024 .f32) (n : Fin 2048) (h k : Fin 8) :
    Host.dotGeneral dot_S1x2048x8x8x1024_S1x2048x8x1024_S1x2048x8x8_4_3_3_n_012_012 none x y (ix4 0 n h k)
      = ∑ d : Fin 1024, x (ix5 0 n h k d) * y (ix4 0 n h d) := by
  pointwise []

/-- The weighted sum over heads and places. -/
theorem mix_at (w : FVec Ideal S1x2048x8x8 .f32) (y : FVec Ideal S1x2048x8x8x1024 .f32) (n : Fin 2048) (e : Fin 1024) :
    Host.dotGeneral dot_S1x2048x8x8_S1x2048x8x8x1024_S1x2048x1024_23_23_n_4_01_01 none w y (ix3 0 n e)
      = ∑ h : Fin 8, ∑ k : Fin 8, w (ix4 0 n h k) * y (ix5 0 n h k e) := by
  pointwise []

/-! ## Top-k -/

/-- The comparison the top-k asks, as the order of the extended reals. -/
theorem gt_eq (x y : Ideal .f32) : ((FloatOps.cmpfTotal .gt x y : BitVec 1) == 1#1) = decide ((y : EReal) < x) := by
  rw [Ideal.cmpfTotal_def]
  show (BitVec.ofBool (decide ((y : EReal) < x)) == 1#1) = _
  cases decide ((y : EReal) < x) <;> rfl

/-- The top-k of every row: the ranked entries and their positions. -/
theorem topK_at {p q r n : ℕ} (x : FVec Ideal ⟨4, ![p, q, r, n]⟩ .f32)
    (hs : (⟨4, ![p, q, r, n]⟩ : Shape).Slices (fun _ => 0) ⟨4, ![p, q, r, 8]⟩) (hn : 8 ≤ n) (a : Fin p) (b : Fin q) (c : Fin r) (k : Fin 8) :
    (Host.topK ⟨4, ![p, q, r, 8]⟩ 3 (FloatOps.cmpfTotal .gt) x hs).1 (ix4 a b c k) = x (ix4 a b c (top hn (fun i => x (ix4 a b c i)) k))
      ∧ (Host.topK ⟨4, ![p, q, r, 8]⟩ 3 (FloatOps.cmpfTotal .gt) x hs).2 (ix4 a b c k)
        = BitVec.ofNat 32 (top hn (fun i => x (ix4 a b c i)) k).val := by
  have hd : 3 < (⟨4, ![p, q, r, n]⟩ : Shape).rank := (by decide : 3 < 4)
  have hal : ∀ i : Fin n, (ix4 a b c (k.castLE hn)).along (s := ⟨4, ![p, q, r, n]⟩) ⟨3, hd⟩ i = ix4 a b c i := fun i => by
    funext u
    match u with
    | ⟨0, _⟩ => rfl
    | ⟨1, _⟩ => rfl
    | ⟨2, _⟩ => rfl
    | ⟨3, _⟩ => rfl
  have hJ : (fun u : Fin 4 => (⟨0 + ((ix4 a b c k : (⟨4, ![p, q, r, 8]⟩ : Shape).Idx) (u.cast hs.1.symm)).val,
      Nat.lt_of_lt_of_le (Nat.add_lt_add_left (Fin.isLt _) _) (hs.2 u)⟩ : Fin ((⟨4, ![p, q, r, n]⟩ : Shape).size u))) = ix4 a b c (k.castLE hn) := by
    funext u
    apply Fin.ext
    match u with
    | ⟨0, _⟩ => exact Nat.zero_add _
    | ⟨1, _⟩ => exact Nat.zero_add _
    | ⟨2, _⟩ => exact Nat.zero_add _
    | ⟨3, _⟩ => exact Nat.zero_add _
  have hπ : sortedFrom (n := n) (fun i i' => (FloatOps.cmpfTotal .gt
      (x ((ix4 a b c (k.castLE hn)).along (s := ⟨4, ![p, q, r, n]⟩) ⟨3, hd⟩ i))
      (x ((ix4 a b c (k.castLE hn)).along (s := ⟨4, ![p, q, r, n]⟩) ⟨3, hd⟩ i')) : BitVec 1) == 1#1) (k.castLE hn)
      = top hn (fun i => x (ix4 a b c i)) k := by
    unfold top rank
    refine congrArg (fun f => sortedFrom f (k.castLE hn)) (funext fun i => funext fun i' => ?_)
    rw [hal, hal]
    exact gt_eq _ _
  unfold Host.topK Host.sort2 extractStridedSlice
  simp only [dif_pos hd]
  constructor
  · refine (congrArg (fun J : (⟨4, ![p, q, r, n]⟩ : Shape).Idx => x (J.along ⟨3, hd⟩ (sortedFrom (n := n) (fun i i' => (FloatOps.cmpfTotal .gt
      (x (J.along ⟨3, hd⟩ i)) (x (J.along ⟨3, hd⟩ i')) : BitVec 1) == 1#1) (J 3)))) hJ).trans ?_
    refine (congrArg (fun i : Fin n => x ((ix4 a b c (k.castLE hn)).along (s := ⟨4, ![p, q, r, n]⟩) ⟨3, hd⟩ i)) hπ).trans ?_
    rw [hal]
  · refine (congrArg (fun J : (⟨4, ![p, q, r, n]⟩ : Shape).Idx => iotaInDim ⟨4, ![p, q, r, n]⟩ 32 ⟨3, hd⟩ (J.along ⟨3, hd⟩ (sortedFrom (n := n) (fun i i' => (FloatOps.cmpfTotal .gt
      (x (J.along ⟨3, hd⟩ i)) (x (J.along ⟨3, hd⟩ i')) : BitVec 1) == 1#1) (J 3)))) hJ).trans ?_
    refine (congrArg (fun i : Fin n => iotaInDim ⟨4, ![p, q, r, n]⟩ 32 ⟨3, hd⟩ ((ix4 a b c (k.castLE hn)).along (s := ⟨4, ![p, q, r, n]⟩) ⟨3, hd⟩ i)) hπ).trans ?_
    rw [hal]
    rfl

/-! ## The sums and their softmax -/

/-- The sixty-four sums. -/
theorem cross_at (l r : FVec Ideal S1x2048x8x8 .f32) (n : Fin 2048) (h : Fin 8) (j : Fin 64) :
    shapeCast S1x2048x8x64 (addf (broadcastInDim S1x2048x8x8x8 ![0, 1, 2, 3, 4] bcast_S1x2048x8x8x1_S1x2048x8x8x8_0_1_2_3_4
        (broadcastInDim S1x2048x8x8x1 ![0, 1, 2, 3] bcast_S1x2048x8x8_S1x2048x8x8x1_0_1_2_3 l))
      (broadcastInDim S1x2048x8x8x8 ![0, 1, 2, 3, 4] bcast_S1x2048x8x1x8_S1x2048x8x8x8_0_1_2_3_4
        (broadcastInDim S1x2048x8x1x8 ![0, 1, 2, 4] bcast_S1x2048x8x8_S1x2048x8x1x8_0_1_2_4 r))) shapeCasts_S1x2048x8x8x8_S1x2048x8x64 (ix4 0 n h j)
      = l (ix4 0 n h ⟨j.val / 8, by omega⟩) + r (ix4 0 n h ⟨j.val % 8, by omega⟩) := by
  pointwise []

/-- The unnormalized weights. -/
theorem expo_at (v : FVec Ideal S1x2048x8x8 .f32) (n : Fin 2048) (h k : Fin 8) :
    Host.exp (subf v (broadcastInDim S1x2048x8x8 ![0, 1, 2, 3] bcast_S1x2048x8x1_S1x2048x8x8_0_1_2_3
      (broadcastInDim S1x2048x8x1 ![0, 1, 2] bcast_S1x2048x8_S1x2048x8x1_0_1_2
        (maximumf (broadcastInDim S1x2048x8 ![] bcast_S_S1x2048x8 (constant S_ .f32 0xFF800000#32))
          (Host.reduce FloatOps.maximumf v (constant S_ .f32 0xFF800000#32) reducesTo_S1x2048x8x8_S1x2048x8_d3 h_S_))))) (ix4 0 n h k)
      = Ideal.exp (v (ix4 0 n h k) - (Finset.univ : Finset (Fin 8)).fold max ⊥ (fun k => v (ix4 0 n h k))) := by
  pointwise []
  rw [show Ideal.ofBits FTy.f32 4286578688#32 = ⊥ from negInf, max_eq_right bot_le]

/-- The weights. -/
theorem score_div_at (v : FVec Ideal S1x2048x8x8 .f32) (n : Fin 2048) (h k : Fin 8) :
    Host.divf v (broadcastInDim S1x2048x8x8 ![0, 1, 2, 3] bcast_S1x2048x8x1_S1x2048x8x8_0_1_2_3
      (broadcastInDim S1x2048x8x1 ![0, 1, 2] bcast_S1x2048x8_S1x2048x8x1_0_1_2
        (Host.reduceAdd v (constant S_ .f32 0x00000000#32) reducesTo_S1x2048x8x8_S1x2048x8_d3 h_S_))) (ix4 0 n h k)
      = Ideal.div (v (ix4 0 n h k)) (∑ k : Fin 8, v (ix4 0 n h k)) := by
  pointwise []
  try rw [zero_add]

/-- The activation. -/
theorem gelu_at (v : FVec Ideal S1x2048x8x8 .f32) (j : S1x2048x8x8.Idx) :
    mulf v (mulf (broadcastInDim S1x2048x8x8 ![] bcast_S_S1x2048x8x8 (constant S_ .f32 0x3F000000#32))
      (addf (broadcastInDim S1x2048x8x8 ![] bcast_S_S1x2048x8x8 (constant S_ .f32 0x3F800000#32))
        (Host.tanh (mulf (broadcastInDim S1x2048x8x8 ![] bcast_S_S1x2048x8x8 (constant S_ .f32 0x3F4C422A#32))
          (addf v (mulf (broadcastInDim S1x2048x8x8 ![] bcast_S_S1x2048x8x8 (constant S_ .f32 0x3D372713#32))
            (mulf (mulf v v) v))))))) j = gelu (v j) := by
  pointwise []
  unfold gelu
  simp only [mul_assoc, mul_left_comm (v j)]

/-! ## Gathers -/

/-- A word below `2 ^ 31` read signed. -/
theorem toInt_word (v : ℕ) (h : v < 2 ^ 31) : (BitVec.ofNat 32 v).toInt = v := by
  rw [BitVec.toInt_eq_toNat_cond, BitVec.toNat_ofNat, Nat.mod_eq_of_lt (by omega), if_pos (by omega)]

/-- Taking along the last axis: where the index word is in range, that entry. -/
theorem take_at {w : ℕ} (x : IVec S1x2048x8x8 w) (idx : IVec S2048x8x8x1 32) (n : Fin 2048) (h k v : Fin 8)
    (hv : idx (ix4 n h k 0) = BitVec.ofNat 32 v.val) :
    Host.gather gather_S1x2048x8x8_S2048x8x8x1_S1x2048x8x8_0_3_12_01_3_3_1111 x idx (ix4 0 n h k) = x (ix4 0 n h v) := by
  unfold Host.gather
  refine congrArg x (funext fun a => Fin.ext ?_)
  have hsi : gather_S1x2048x8x8_S2048x8x8x1_S1x2048x8x8_0_3_12_01_3_3_1111.siIdx (ix4 0 n h k) ⟨0, Nat.one_pos⟩ = ix4 n h k 0 := by
    funext b
    match b with
    | ⟨0, _⟩ => rfl
    | ⟨1, _⟩ => rfl
    | ⟨2, _⟩ => rfl
    | ⟨3, _⟩ => rfl
  match a with
  | ⟨0, _⟩ => rfl
  | ⟨1, _⟩ => exact Nat.zero_add n.val
  | ⟨2, _⟩ => exact Nat.zero_add h.val
  | ⟨3, _⟩ =>
    show min (idx (gather_S1x2048x8x8_S2048x8x8x1_S1x2048x8x8_0_3_12_01_3_3_1111.siIdx (ix4 0 n h k) ⟨0, Nat.one_pos⟩)).toInt.toNat 7 + 0 + 0 = v.val
    rw [hsi, hv, toInt_word _ (by omega)]
    show min v.val 7 + 0 + 0 = v.val
    omega

/-- Taking rows of a table: where the index word is in range, that row. -/
theorem rows_at (x : FVec Ideal S65536x1024 .f32) (idx : IVec S1x2048x8x8x1 32) (n : Fin 2048) (h k : Fin 8) (d : Fin 1024) (v : Fin 65536)
    (hv : idx (ix5 0 n h k 0) = BitVec.ofNat 32 v.val) :
    Host.gather gather_S65536x1024_S1x2048x8x8x1_S1x2048x8x8x1024_4_0_n_n_0_4_11024 x idx (ix5 0 n h k d) = x (ix2 v d) := by
  unfold Host.gather
  refine congrArg x (funext fun a => Fin.ext ?_)
  have hsi : gather_S65536x1024_S1x2048x8x8x1_S1x2048x8x8x1024_4_0_n_n_0_4_11024.siIdx (ix5 0 n h k d) ⟨0, Nat.one_pos⟩ = ix5 0 n h k 0 := by
    funext b
    match b with
    | ⟨0, _⟩ => rfl
    | ⟨1, _⟩ => rfl
    | ⟨2, _⟩ => rfl
    | ⟨3, _⟩ => rfl
    | ⟨4, _⟩ => rfl
  match a with
  | ⟨0, _⟩ =>
    show min (idx (gather_S65536x1024_S1x2048x8x8x1_S1x2048x8x8x1024_4_0_n_n_0_4_11024.siIdx (ix5 0 n h k d) ⟨0, Nat.one_pos⟩)).toInt.toNat 65535 + 0 + 0 = v.val
    rw [hsi, hv, toInt_word _ (by omega)]
    show min v.val 65535 + 0 + 0 = v.val
    omega
  | ⟨1, _⟩ => exact Nat.zero_add d.val

/-! ## Words -/

/-- A word of a value below 64 over eight, rounded down as the reference does it, is the value's. -/
theorem eighth_at (x : IVec S1x2048x8x8 32) (j : S1x2048x8x8.Idx) (v : Fin 64) (hv : x j = BitVec.ofNat 32 v.val) :
    select (andi (cmpi .ne (signi x) (broadcastInDim S1x2048x8x8 ![] bcast_S_S1x2048x8x8 (signi (constantI S_ 32 8#32))))
        (cmpi .ne (Host.remsi x (broadcastInDim S1x2048x8x8 ![] bcast_S_S1x2048x8x8 (constantI S_ 32 8#32)))
          (broadcastInDim S1x2048x8x8 ![] bcast_S_S1x2048x8x8 (constantI S_ 32 0#32))))
      (subi (Host.divsi x (broadcastInDim S1x2048x8x8 ![] bcast_S_S1x2048x8x8 (constantI S_ 32 8#32)))
        (broadcastInDim S1x2048x8x8 ![] bcast_S_S1x2048x8x8 (constantI S_ 32 1#32)))
      (Host.divsi x (broadcastInDim S1x2048x8x8 ![] bcast_S_S1x2048x8x8 (constantI S_ 32 8#32))) j = BitVec.ofNat 32 (v.val / 8) := by
  pointwise [hv]
  clear hv
  revert v
  decide +kernel

/-- A word of a value below 64 modulo eight, as the reference does it, is the value's. -/
theorem mod_at (x : IVec S1x2048x8x8 32) (j : S1x2048x8x8.Idx) (v : Fin 64) (hv : x j = BitVec.ofNat 32 v.val) (y : IVec S_ 32)
    (hy : y = select (cmpi .eq (constantI S_ 32 8#32) (constantI S_ 32 0#32)) (constantI S_ 32 1#32) (constantI S_ 32 8#32))
    (z : IVec S1x2048x8x8 32) (hz : z = Host.remsi x (broadcastInDim S1x2048x8x8 ![] bcast_S_S1x2048x8x8 y)) :
    select (andi (cmpi .ne (cmpi .slt z (broadcastInDim S1x2048x8x8 ![] bcast_S_S1x2048x8x8 (constantI S_ 32 0#32)))
          (broadcastInDim S1x2048x8x8 ![] bcast_S_S1x2048x8x8 (cmpi .slt y (constantI S_ 32 0#32))))
        (cmpi .ne z (broadcastInDim S1x2048x8x8 ![] bcast_S_S1x2048x8x8 (constantI S_ 32 0#32))))
      (addi z (broadcastInDim S1x2048x8x8 ![] bcast_S_S1x2048x8x8 y)) z j = BitVec.ofNat 32 (v.val % 8) := by
  subst hz hy
  pointwise [hv]
  clear hv
  revert v
  decide +kernel

/-- A word below `2 ^ 31` is not negative. -/
theorem cmpi_slt_zero (v : ℕ) (h : v < 2 ^ 31) : IntOp.cmpi .slt (BitVec.ofNat 32 v) 0#32 = 0#1 := by
  show BitVec.ofBool (decide ((BitVec.ofNat 32 v).toInt < (0#32).toInt)) = 0#1
  rw [toInt_word v h, decide_eq_false (by simp)]
  rfl

/-- A word below `2 ^ 31` is at least zero. -/
theorem cmpi_sge_zero (v : ℕ) (h : v < 2 ^ 31) : IntOp.cmpi .sge (BitVec.ofNat 32 v) 0#32 = 1#1 := by
  show BitVec.ofBool (decide ((0#32).toInt ≤ (BitVec.ofNat 32 v).toInt)) = 1#1
  rw [toInt_word v h, decide_eq_true (by simp)]
  rfl

/-- Words below `2 ^ 31` compare as their values. -/
theorem cmpi_sle_word (v b : ℕ) (hb : b < 2 ^ 31) (h : v ≤ b) : IntOp.cmpi .sle (BitVec.ofNat 32 v) (BitVec.ofNat 32 b) = 1#1 := by
  show BitVec.ofBool (decide ((BitVec.ofNat 32 v).toInt ≤ (BitVec.ofNat 32 b).toInt)) = 1#1
  rw [toInt_word v (by omega), toInt_word b hb, decide_eq_true (by omega)]
  rfl

/-- A word of a nonnegative value is not wrapped around. -/
theorem wrap_at (x : IVec S1x2048x8x8 32) (b : BitVec 32) (j : S1x2048x8x8.Idx) (v : ℕ) (hv : x j = BitVec.ofNat 32 v) (h : v < 2 ^ 31) :
    select (cmpi .slt x (broadcastInDim S1x2048x8x8 ![] bcast_S_S1x2048x8x8 (constantI S_ 32 0#32)))
      (addi x (broadcastInDim S1x2048x8x8 ![] bcast_S_S1x2048x8x8 (constantI S_ 32 b))) x j = BitVec.ofNat 32 v := by
  pointwise [hv]
  rw [cmpi_slt_zero v h]
  exact if_neg (by decide)

/-- A choice at an index where the condition holds. -/
theorem select_one {α : Type} {s : Shape} (c : IVec s 1) (a b : s.Idx → α) (j : s.Idx) (h : c j = 1#1) : select c a b j = a j :=
  if_pos h

/-- A spread of an array of ones is an array of ones. -/
theorem bcast_one {s t : Shape} (dims : Fin s.rank → Fin t.rank) (hb : s.BroadcastsInDim t dims) (x : IVec s 1) (hx : ∀ i, x i = 1#1) (j : t.Idx) :
    broadcastInDim t dims hb x j = 1#1 := hx _

/-- The range check of the index words along the last axis. -/
theorem take_range (idx : IVec S2048x8x8x1 32) (hr : ∀ (n : Fin 2048) (h k : Fin 8), ∃ v : Fin 8, idx (ix4 n h k 0) = BitVec.ofNat 32 v.val)
    (j : S2048x8x8.Idx) :
    Host.reduce IntOp.andi
        (andi (cmpi .sge idx (broadcastInDim S2048x8x8x1 ![] bcast_S_S2048x8x8x1 (constantI S_ 32 0#32)))
          (cmpi .sle idx (broadcastInDim S2048x8x8x1 ![0, 1, 2, 3] bcast_S1x1x1x1_S2048x8x8x1_0_1_2_3
            (broadcastInDim S1x1x1x1 ![3] bcast_S1_S1x1x1x1_3 (constantI S1 32 7#32)))))
        (constantI S_ 1 1#1) reducesTo_S2048x8x8x1_S2048x8x8_d3 h_S_ j = 1#1 := by
  refine Host.reduce_andi_one _ _ _ _ j rfl fun i => ?_
  obtain ⟨n', h', k', o, rfl⟩ : ∃ (n' : Fin 2048) (h' k' : Fin 8) (o : Fin 1), i = ix4 n' h' k' o := ⟨i 0, i 1, i 2, i 3, eq_ix4 i⟩
  obtain rfl : o = 0 := Subsingleton.elim _ _
  obtain ⟨v', hv'⟩ := hr n' h' k'
  pointwise [hv']
  rw [cmpi_sge_zero _ (by omega), cmpi_sle_word v'.val 7 (by decide) (by omega)]
  rfl

/-- Index words that are not negative, one to a row. -/
theorem take_words_at (x : IVec S1x2048x8x8 32) (n : Fin 2048) (h k v : Fin 8) (hv : x (ix4 0 n h k) = BitVec.ofNat 32 v.val) :
    shapeCast S2048x8x8x1 (select (cmpi .slt x (broadcastInDim S1x2048x8x8 ![] bcast_S_S1x2048x8x8 (constantI S_ 32 0#32)))
      (addi x (broadcastInDim S1x2048x8x8 ![] bcast_S_S1x2048x8x8 (constantI S_ 32 8#32))) x) shapeCasts_S1x2048x8x8_S2048x8x8x1 (ix4 n h k 0)
      = BitVec.ofNat 32 v.val := by
  refine Eq.trans ?_ (wrap_at x 8#32 (ix4 0 n h k) v.val hv (by omega))
  pointwise []

/-- Row words that are not negative. -/
theorem row_words_at (x : IVec S1x2048x8x8 32) (n : Fin 2048) (h k : Fin 8) (v : Fin 65536) (hv : x (ix4 0 n h k) = BitVec.ofNat 32 v.val) :
    broadcastInDim S1x2048x8x8x1 ![0, 1, 2, 3] bcast_S1x2048x8x8_S1x2048x8x8x1_0_1_2_3
      (select (cmpi .slt x (broadcastInDim S1x2048x8x8 ![] bcast_S_S1x2048x8x8 (constantI S_ 32 0#32)))
        (addi x (broadcastInDim S1x2048x8x8 ![] bcast_S_S1x2048x8x8 (constantI S_ 32 65536#32))) x) (ix5 0 n h k 0)
      = BitVec.ofNat 32 v.val := by
  refine Eq.trans ?_ (wrap_at x 65536#32 (ix4 0 n h k) v.val hv (by omega))
  pointwise []

/-- The row word from the two entries' words. -/
theorem row_at (x y : IVec S1x2048x8x8 32) (j : S1x2048x8x8.Idx) (a b : ℕ) (hx : x j = BitVec.ofNat 32 a) (hy : y j = BitVec.ofNat 32 b) :
    addi (muli x (broadcastInDim S1x2048x8x8 ![] bcast_S_S1x2048x8x8 (constantI S_ 32 8#32))) y j = BitVec.ofNat 32 (a * 8 + b) := by
  pointwise [hx, hy]
  show BitVec.ofNat 32 a * BitVec.ofNat 32 8 + BitVec.ofNat 32 b = _
  rw [BitVec.ofNat_add, BitVec.ofNat_mul]

/-- Taking along the last axis with the reference's range check: where every index word is in range, the entries. -/
theorem take_checked (x : IVec S1x2048x8x8 32) (idx : IVec S2048x8x8x1 32) (y : IVec S1x2048x8x8 32)
    (hr : ∀ (n : Fin 2048) (h k : Fin 8), ∃ v : Fin 8, idx (ix4 n h k 0) = BitVec.ofNat 32 v.val) (n : Fin 2048) (h k v : Fin 8)
    (hv : idx (ix4 n h k 0) = BitVec.ofNat 32 v.val) :
    select (broadcastInDim S1x2048x8x8 ![1, 2, 3] bcast_S2048x8x8_S1x2048x8x8_1_2_3 (Host.reduce IntOp.andi
        (andi (cmpi .sge idx (broadcastInDim S2048x8x8x1 ![] bcast_S_S2048x8x8x1 (constantI S_ 32 0#32)))
          (cmpi .sle idx (broadcastInDim S2048x8x8x1 ![0, 1, 2, 3] bcast_S1x1x1x1_S2048x8x8x1_0_1_2_3
            (broadcastInDim S1x1x1x1 ![3] bcast_S1_S1x1x1x1_3 (constantI S1 32 7#32)))))
        (constantI S_ 1 1#1) reducesTo_S2048x8x8x1_S2048x8x8_d3 h_S_))
      (Host.gather gather_S1x2048x8x8_S2048x8x8x1_S1x2048x8x8_0_3_12_01_3_3_1111 x idx) y (ix4 0 n h k) = x (ix4 0 n h v) := by
  refine (select_one _ _ _ _ (bcast_one _ _ _ (take_range idx hr) _)).trans (take_at x idx n h k v hv)

/-- The range check of the row words. -/
theorem rows_range (idx : IVec S1x2048x8x8x1 32)
    (hr : ∀ (n : Fin 2048) (h k : Fin 8), ∃ v : Fin 65536, idx (ix5 0 n h k 0) = BitVec.ofNat 32 v.val) (j : S1x2048x8x8.Idx) :
    Host.reduce IntOp.andi
        (andi (cmpi .sge idx (broadcastInDim S1x2048x8x8x1 ![] bcast_S_S1x2048x8x8x1 (constantI S_ 32 0#32)))
          (cmpi .sle idx (broadcastInDim S1x2048x8x8x1 ![0, 1, 2, 3, 4] bcast_S1x1x1x1x1_S1x2048x8x8x1_0_1_2_3_4
            (broadcastInDim S1x1x1x1x1 ![4] bcast_S1_S1x1x1x1x1_4 (constantI S1 32 65535#32)))))
        (constantI S_ 1 1#1) reducesTo_S1x2048x8x8x1_S1x2048x8x8_d4 h_S_ j = 1#1 := by
  refine Host.reduce_andi_one _ _ _ _ j rfl fun i => ?_
  obtain ⟨o, n', h', k', o', rfl⟩ : ∃ (o : Fin 1) (n' : Fin 2048) (h' k' : Fin 8) (o' : Fin 1), i = ix5 o n' h' k' o' :=
    ⟨i 0, i 1, i 2, i 3, i 4, eq_ix5 i⟩
  obtain rfl : o = 0 := Subsingleton.elim _ _
  obtain rfl : o' = 0 := Subsingleton.elim _ _
  obtain ⟨v', hv'⟩ := hr n' h' k'
  pointwise [hv']
  rw [cmpi_sge_zero _ (by omega), cmpi_sle_word v'.val 65535 (by decide) (by omega)]
  rfl

/-- Taking rows of a table with the reference's range check: where every index word is in range, the rows. -/
theorem rows_checked (x : FVec Ideal S65536x1024 .f32) (idx : IVec S1x2048x8x8x1 32) (y : FVec Ideal S1x2048x8x8x1024 .f32)
    (hr : ∀ (n : Fin 2048) (h k : Fin 8), ∃ v : Fin 65536, idx (ix5 0 n h k 0) = BitVec.ofNat 32 v.val) (n : Fin 2048) (h k : Fin 8) (d : Fin 1024)
    (v : Fin 65536) (hv : idx (ix5 0 n h k 0) = BitVec.ofNat 32 v.val) :
    select (broadcastInDim S1x2048x8x8x1024 ![0, 1, 2, 3] bcast_S1x2048x8x8_S1x2048x8x8x1024_0_1_2_3 (Host.reduce IntOp.andi
        (andi (cmpi .sge idx (broadcastInDim S1x2048x8x8x1 ![] bcast_S_S1x2048x8x8x1 (constantI S_ 32 0#32)))
          (cmpi .sle idx (broadcastInDim S1x2048x8x8x1 ![0, 1, 2, 3, 4] bcast_S1x1x1x1x1_S1x2048x8x8x1_0_1_2_3_4
            (broadcastInDim S1x1x1x1x1 ![4] bcast_S1_S1x1x1x1x1_4 (constantI S1 32 65535#32)))))
        (constantI S_ 1 1#1) reducesTo_S1x2048x8x8x1_S1x2048x8x8_d4 h_S_))
      (Host.gather gather_S65536x1024_S1x2048x8x8x1_S1x2048x8x8x1024_4_0_n_n_0_4_11024 x idx) y (ix5 0 n h k d) = x (ix2 v d) := by
  refine (select_one _ _ _ _ (bcast_one _ _ _ (rows_range idx hr) _)).trans (rows_at x idx n h k d v hv)

end Cert.Proof.RefOps
-- ==== Proof.RefArray.lean ====
/- The reference's result array is the whole computation's result. -/
module

public import proofs.«01_k».proof.Proof.RefOps

@[expose] public section

set_option maxRecDepth 16384

noncomputable section

namespace Cert.Proof.RefArray

open Cert.ReferenceIdeal Cert.ReferenceIdeal.Gen Cert.ReferenceIdeal.Value Idealize.ShloMosaic Idealize.ShloMosaic.StableHlo Idealize.ShloMosaic.TcCoe Idealize.SL.Sem
open Cert.Proof Cert.Proof.Spec Cert.Proof.Rounds Cert.Proof.RefOps

variable (V : Valuation τ sig (Elt Ideal))

/-- The arguments as arrays of extended reals. -/
abbrev a0 : FVec Ideal S1x2048x1024 .f32 := V (Proc.devRef .tc main_arg0)
abbrev a1 : FVec Ideal S1024x1024 .f32 := V (Proc.devRef .tc main_arg1)
abbrev a2 : FVec Ideal S4096x1024 .f32 := V (Proc.devRef .tc main_arg2)
abbrev a3 : FVec Ideal S8192x1024 .f32 := V (Proc.devRef .tc main_arg3)
abbrev a4 : FVec Ideal S256x512 .f32 := V (Proc.devRef .tc main_arg4)
abbrev a5 : FVec Ideal S256x512 .f32 := V (Proc.devRef .tc main_arg5)
abbrev a6 : FVec Ideal S65536x1024 .f32 := V (Proc.devRef .tc main_arg6)
abbrev a7 : FVec Ideal S65536x1024 .f32 := V (Proc.devRef .tc main_arg7)

/-- A token's scores in a head against the left codebook and against the right one. -/
abbrev L (n : Fin 2048) (h : Fin 8) : Fin 256 → EReal := Model.scores (a0 V) (a2 V) (a4 V) n h
abbrev R (n : Fin 2048) (h : Fin 8) : Fin 256 → EReal := Model.scores (a0 V) (a2 V) (a5 V) n h

theorem x_at (n : Fin 2048) (h : Fin 8) (d : Fin 512) : (res_main_v2 V : FVec Ideal S1x2048x8x512 .f32) (ix4 0 n h d) = Model.query (a0 V) (a2 V) n h d :=
  query_at _ _ n h d

theorem left_at (n : Fin 2048) (h : Fin 8) (i : Fin 256) : (res_main_v9 V : FVec Ideal S1x2048x8x256 .f32) (ix4 0 n h i) = L V n h i :=
  (score_at _ _ n h i).trans (Finset.sum_congr rfl fun d _ => congrArg (· * _) (x_at V n h d))

theorem right_at (n : Fin 2048) (h : Fin 8) (i : Fin 256) : (res_main_v11 V : FVec Ideal S1x2048x8x256 .f32) (ix4 0 n h i) = R V n h i :=
  (score_at _ _ n h i).trans (Finset.sum_congr rfl fun d _ => congrArg (· * _) (x_at V n h d))

/-- The top eight of an array whose rows are known. -/
theorem top_at {N : ℕ} (x : FVec Ideal ⟨4, ![1, 2048, 8, N]⟩ .f32) (hs : (⟨4, ![1, 2048, 8, N]⟩ : Shape).Slices (fun _ => 0) ⟨4, ![1, 2048, 8, 8]⟩)
    (hn : 8 ≤ N) (n : Fin 2048) (h : Fin 8) (f : Fin N → EReal) (hx : ∀ i, x (ix4 0 n h i) = f i) (k : Fin 8) :
    (Host.topK ⟨4, ![1, 2048, 8, 8]⟩ 3 (FloatOps.cmpfTotal .gt) x hs).1 (ix4 0 n h k) = f (top hn f k)
      ∧ (Host.topK ⟨4, ![1, 2048, 8, 8]⟩ 3 (FloatOps.cmpfTotal .gt) x hs).2 (ix4 0 n h k) = BitVec.ofNat 32 (top hn f k).val := by
  have e : (fun i => x (ix4 0 n h i)) = f := funext hx
  have t := topK_at x hs hn 0 n h k
  rw [e, hx] at t
  exact t

theorem sums_at (n : Fin 2048) (h : Fin 8) (j : Fin 64) :
    (res_main_v17 V : FVec Ideal S1x2048x8x64 .f32) (ix4 0 n h j) = sums (L V n h) (R V n h) j :=
  (cross_at _ _ n h j).trans (congrArg₂ (· + ·)
    (top_at (res_main_v9 V) _ (by decide) n h _ (left_at V n h) _).1 (top_at (res_main_v11 V) _ (by decide) n h _ (right_at V n h) _).1)

theorem values_at (n : Fin 2048) (h k : Fin 8) :
    (res_main_values_2 V : FVec Ideal S1x2048x8x8 .f32) (ix4 0 n h k) = sums (L V n h) (R V n h) (best (L V n h) (R V n h) k) :=
  (top_at (res_main_v17 V) _ (by decide) n h _ (sums_at V n h) k).1

theorem indices_at (n : Fin 2048) (h k : Fin 8) :
    (res_main_indices_3 V : IVec S1x2048x8x8 32) (ix4 0 n h k) = BitVec.ofNat 32 (best (L V n h) (R V n h) k).val :=
  (top_at (res_main_v17 V) _ (by decide) n h _ (sums_at V n h) k).2

theorem v24_at (n : Fin 2048) (h k : Fin 8) :
    (res_main_v24 V : FVec Ideal S1x2048x8x8 .f32) (ix4 0 n h k) = expo (L V n h) (R V n h) k := by
  refine (expo_at (res_main_values_2 V) n h k).trans ?_
  simp only [values_at]
  rfl

/-- The chosen sum's place on the left side and on the right one. -/
abbrev lp (n : Fin 2048) (h k : Fin 8) : Fin 8 := ⟨(best (L V n h) (R V n h) k).val / 8, by omega⟩
abbrev rp (n : Fin 2048) (h k : Fin 8) : Fin 8 := ⟨(best (L V n h) (R V n h) k).val % 8, by omega⟩

theorem v29_at (n : Fin 2048) (h k : Fin 8) : (res_main_v29 V : IVec S1x2048x8x8 32) (ix4 0 n h k) = BitVec.ofNat 32 (lp V n h k).val :=
  eighth_at (res_main_indices_3 V) (ix4 0 n h k) _ (indices_at V n h k)

theorem v30_at (n : Fin 2048) (h k : Fin 8) : (res_main_v30 V : IVec S1x2048x8x8 32) (ix4 0 n h k) = BitVec.ofNat 32 (rp V n h k).val :=
  mod_at (res_main_indices_3 V) (ix4 0 n h k) _ (indices_at V n h k) (res_main_call1_v2 V) rfl (res_main_call1_v4 V) rfl

theorem c2_at (n : Fin 2048) (h k : Fin 8) : (res_main_call2_v5 V : IVec S2048x8x8x1 32) (ix4 n h k 0) = BitVec.ofNat 32 (lp V n h k).val :=
  take_words_at (res_main_v29 V) n h k _ (v29_at V n h k)

theorem c3_at (n : Fin 2048) (h k : Fin 8) : (res_main_call3_v5 V : IVec S2048x8x8x1 32) (ix4 n h k 0) = BitVec.ofNat 32 (rp V n h k).val :=
  take_words_at (res_main_v30 V) n h k _ (v30_at V n h k)

/-- The row number the chosen sum names. -/
abbrev rowOf (n : Fin 2048) (h k : Fin 8) : Fin 65536 := (row (L V n h) (R V n h) k).castLE (by decide)

theorem v35_at (n : Fin 2048) (h k : Fin 8) : (res_main_v35 V : IVec S1x2048x8x8 32) (ix4 0 n h k) = BitVec.ofNat 32 (rowOf V n h k).val :=
  row_at _ _ (ix4 0 n h k) _ _
    ((take_checked _ (res_main_call2_v5 V) _ (fun n h k => ⟨_, c2_at V n h k⟩) n h k _ (c2_at V n h k)).trans
      (top_at (res_main_v9 V) _ (by decide) n h _ (left_at V n h) _).2)
    ((take_checked _ (res_main_call3_v5 V) _ (fun n h k => ⟨_, c3_at V n h k⟩) n h k _ (c3_at V n h k)).trans
      (top_at (res_main_v11 V) _ (by decide) n h _ (right_at V n h) _).2)

theorem c4_at (n : Fin 2048) (h k : Fin 8) : (res_main_call4_v5 V : IVec S1x2048x8x8x1 32) (ix5 0 n h k 0) = BitVec.ofNat 32 (rowOf V n h k).val :=
  row_words_at (res_main_v35 V) n h k _ (v35_at V n h k)

theorem c5_at (n : Fin 2048) (h k : Fin 8) : (res_main_call5_v5 V : IVec S1x2048x8x8x1 32) (ix5 0 n h k 0) = BitVec.ofNat 32 (rowOf V n h k).val :=
  row_words_at (res_main_v35 V) n h k _ (v35_at V n h k)

theorem v38_at (n : Fin 2048) (h k : Fin 8) :
    (res_main_v38 V : FVec Ideal S1x2048x8x8 .f32) (ix4 0 n h k) = Model.inner (a0 V) (a3 V) (a6 V) n h (row (L V n h) (R V n h) k) := by
  refine (inner_at _ _ n h k).trans (Finset.sum_congr rfl fun d _ => ?_)
  refine (congrArg₂ (· * ·) (rows_checked (a6 V) (res_main_call4_v5 V) _ (fun n h k => ⟨_, c4_at V n h k⟩) n h k d _ (c4_at V n h k))
    (key_at (a0 V) (a3 V) n h d)).trans ?_
  exact mul_comm _ _

/-- The weighted rows of one token summed over heads and places, plus its residual projection. -/
theorem total_at (n : Fin 2048) (e : Fin 1024) :
    (addf (Host.dotGeneral dot_S1x2048x8x8_S1x2048x8x8x1024_S1x2048x1024_23_23_n_4_01_01 none (mulf (Host.divf (res_main_v24 V) (broadcastInDim S1x2048x8x8 ![0, 1, 2, 3] bcast_S1x2048x8x1_S1x2048x8x8_0_1_2_3 (broadcastInDim S1x2048x8x1 ![0, 1, 2] bcast_S1x2048x8_S1x2048x8x1_0_1_2 (Host.reduceAdd (res_main_v24 V) (constant S_ .f32 0x00000000#32) reducesTo_S1x2048x8x8_S1x2048x8_d3 h_S_)))) (mulf (res_main_v38 V) (mulf (broadcastInDim S1x2048x8x8 ![] bcast_S_S1x2048x8x8 (constant S_ .f32 0x3F000000#32)) (addf (broadcastInDim S1x2048x8x8 ![] bcast_S_S1x2048x8x8 (constant S_ .f32 0x3F800000#32)) (Host.tanh (mulf (broadcastInDim S1x2048x8x8 ![] bcast_S_S1x2048x8x8 (constant S_ .f32 0x3F4C422A#32)) (addf (res_main_v38 V) (mulf (broadcastInDim S1x2048x8x8 ![] bcast_S_S1x2048x8x8 (constant S_ .f32 0x3D372713#32)) (mulf (mulf (res_main_v38 V) (res_main_v38 V)) (res_main_v38 V))))))))))
      (select (broadcastInDim S1x2048x8x8x1024 ![0, 1, 2, 3] bcast_S1x2048x8x8_S1x2048x8x8x1024_0_1_2_3 (Host.reduce IntOp.andi (andi (cmpi .sge (res_main_call5_v5 V) (broadcastInDim S1x2048x8x8x1 ![] bcast_S_S1x2048x8x8x1 (constantI S_ 32 0#32))) (cmpi .sle (res_main_call5_v5 V) (broadcastInDim S1x2048x8x8x1 ![0, 1, 2, 3, 4] bcast_S1x1x1x1x1_S1x2048x8x8x1_0_1_2_3_4 (broadcastInDim S1x1x1x1x1 ![4] bcast_S1_S1x1x1x1x1_4 (constantI S1 32 65535#32))))) (constantI S_ 1 1#1) reducesTo_S1x2048x8x8x1_S1x2048x8x8_d4 h_S_)) (Host.gather gather_S65536x1024_S1x2048x8x8x1_S1x2048x8x8x1024_4_0_n_n_0_4_11024 (a7 V) (res_main_call5_v5 V)) (broadcastInDim S1x2048x8x8x1024 ![] bcast_S_S1x2048x8x8x1024 (constant S_ .f32 0x7FC00000#32))))
      (Host.dotGeneral dot_S1x2048x1024_S1024x1024_S1x2048x1024_2_0_01_1_n_n none (a0 V) (transpose S1024x1024 [1, 0] (a1 V) transposes_S1024x1024_S1024x1024_1_0)) :
      FVec Ideal S1x2048x1024 .f32) (ix3 0 n e)
      = Model.total (a0 V) (a1 V) (a2 V) (a3 V) (a4 V) (a5 V) (a6 V) (a7 V) n e := by
  refine (congrArg₂ (· + ·) (mix_at _ _ n e) (residual_at (a0 V) (a1 V) n e)).trans ((add_comm _ _).trans ?_)
  refine congrArg (_ + ·) (Finset.sum_congr rfl fun h _ => ?_)
  unfold Model.part mix
  refine Finset.sum_congr rfl fun k _ => ?_
  refine congrArg₂ (· * ·) (congrArg₂ (· * ·) ((score_div_at _ n h k).trans ?_) ((gelu_at (res_main_v38 V) (ix4 0 n h k)).trans ?_))
    (rows_checked (a7 V) (res_main_call5_v5 V) _ (fun n h k => ⟨_, c5_at V n h k⟩) n h k e _ (c5_at V n h k))
  · simp only [v24_at]
    rfl
  · rw [v38_at]

/-- Dropping the unit axis of an array keeps each entry. -/
theorem drop_at (x : FVec Ideal S1x2048x1024 .f32) (n : Fin 2048) (e : Fin 1024) :
    (shapeCast S2048x1024 x shapeCasts_S1x2048x1024_S2048x1024 : FVec Ideal S2048x1024 .f32) (ix2 n e) = x (ix3 0 n e) := by
  pointwise []

/-- An array of one batch whose entries are the whole computation's is, without its unit axis, the whole computation's result. -/
theorem drop_total (x : FVec Ideal S1x2048x1024 .f32) (f : Fin 2048 → Fin 1024 → EReal) (h : ∀ n e, x (ix3 0 n e) = f n e) :
    (shapeCast S2048x1024 x shapeCasts_S1x2048x1024_S2048x1024 : FVec Ideal S2048x1024 .f32) = fun i => f (i 0) (i 1) := by
  funext i
  obtain ⟨n, e, rfl⟩ : ∃ (n : Fin 2048) (e : Fin 1024), i = ix2 n e := ⟨i 0, i 1, by funext a; fin_cases a <;> rfl⟩
  exact (drop_at x n e).trans (h n e)

/-- Every execution of the reference ends with the whole computation's result and the arguments unchanged. -/
theorem run_total (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v55) = (fun i => Model.total (a0 (launchContents m c)) (a1 (launchContents m c)) (a2 (launchContents m c))
        (a3 (launchContents m c)) (a4 (launchContents m c)) (a5 (launchContents m c)) (a6 (launchContents m c)) (a7 (launchContents m c)) (i 0) (i 1) :
        S2048x1024.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c).1.trans (drop_total _ _ (total_at (launchContents m c))), (h c).2⟩) (run m ρ)

end Cert.Proof.RefArray
-- ==== Proof.Precondition.lean ====
/- What the precondition says: every entry of the four arrays that decide the scores is finite. -/
module

public import proofs.«01_k».proof.Defs
public import proofs.«01_k».proof.Proof.Spec
public import Idealize.ShloMosaic.Lib.Pointwise
public import Idealize.ShloMosaic.Lib.ReduceAll

@[expose] public section

set_option maxRecDepth 16384

noncomputable section

namespace Cert.Proof.Precondition

open Idealize.ShloMosaic Cert.Pre_finite_queries Cert.Proof.Spec

/-- The side conditions of the precondition's operations. -/
theorem facts : Cert.Pre_finite_queries.Facts where
  bcast_S_S1x2048x1024 := by decide
  reducesTo_S1x2048x1024_S_d0_1_2 := by decide
  h_S_ := by decide
  bcast_S_S4096x1024 := by decide
  reducesTo_S4096x1024_S_d0_1 := by decide
  bcast_S_S256x512 := by decide
  reducesTo_S256x512_S_d0_1 := by decide

/-- A magnitude below infinity is a finite value's. -/
theorem finite_of_abs (x : EReal) (h : max x (-x) < ⊤) : Finite x := by
  induction x with
  | bot => simp at h
  | top => simp at h
  | coe r => exact ⟨EReal.coe_ne_bot r, EReal.coe_ne_top r⟩

/-- An array all of whose magnitudes are below infinity has finite entries. -/
theorem all_finite {s : Shape} {axes : List (Fin s.rank)} (x : FVec Ideal s .f32) (hb : S_.BroadcastsInDim s (![] : Fin 0 → Fin s.rank))
    (hr : s.ReducesTo axes S_) (hu : 0 < S_.numel) (j : S_.Idx)
    (e : Host.reduce IntOp.andi (cmpf .olt (Host.absf x) (broadcastInDim s ![] hb (constant S_ .f32 0x7F800000#32))) (constantI S_ 1 1#1) hr hu j = 1#1)
    (i : s.Idx) : Finite (x i) := by
  haveI : Subsingleton S_.Idx := ⟨fun a b => funext fun k => k.elim0⟩
  have h := Host.reduce_andi_all _ _ hr hu j e i
  pointwise at h
  have t : Ideal.ofBits FTy.f32 2139095040#32 = ⊤ := by simp [Ideal.ofBits, Ideal.ieee]
  rw [t] at h
  refine finite_of_abs (x i) ?_
  by_contra hn
  have hn' : ¬ (FloatOps.absf (x i) : EReal) < ⊤ := hn
  rw [decide_eq_false hn'] at h
  exact absurd h (by decide)

/-- A conjunction of two bits that is one has both bits one. -/
theorem and_one (a b : BitVec 1) (h : IntOp.andi a b = 1#1) : a = 1#1 ∧ b = 1#1 := by
  revert a b
  decide

attribute [local instance] facts

/-- Where the precondition holds the four arrays are finite. -/
theorem finite (a0 : FVec Ideal S1x2048x1024 .f32) (a1 : FVec Ideal S1024x1024 .f32) (a2 : FVec Ideal S4096x1024 .f32)
    (a3 : FVec Ideal S8192x1024 .f32) (a4 a5 : FVec Ideal S256x512 .f32) (a6 a7 : FVec Ideal S65536x1024 .f32)
    (h : Cert.Pre_finite_queries.fn (F := Ideal) a0 a1 a2 a3 a4 a5 a6 a7 = fun _ => 1#1) :
    (∀ i, Finite (a0 i)) ∧ (∀ i, Finite (a2 i)) ∧ (∀ i, Finite (a4 i)) ∧ ∀ i, Finite (a5 i) := by
  have e := congrFun h (fun k => k.elim0)
  obtain ⟨e, h5⟩ := and_one _ _ e
  obtain ⟨e, h4⟩ := and_one _ _ e
  obtain ⟨h0, h2⟩ := and_one _ _ e
  exact ⟨all_finite a0 _ _ _ _ h0, all_finite a2 _ _ _ _ h2, all_finite a4 _ _ _ _ h4, all_finite a5 _ _ _ _ h5⟩

end Cert.Proof.Precondition
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.KernelIdeal.Value
public import proofs.«01_k».proof.Proof.KernelArray
public import proofs.«01_k».proof.Proof.RefArray
public import proofs.«01_k».proof.Proof.Precondition
public import Idealize.ShloMosaic.Lib.Quiescent
public import Idealize.ShloMosaic.Adequacy
public import Idealize.ShloMosaic.Init

@[expose] public section

noncomputable section

namespace Cert.Proof

open Idealize.ShloMosaic Idealize.SL.Sem

/-- The side conditions each program and the precondition state. -/
local instance : Cert.Kernel.Facts := Cert.Kernel.Gen.facts
local instance : Cert.KernelIdeal.Facts := Cert.KernelIdeal.Gen.facts
local instance : Cert.ReferenceIdeal.Facts := Cert.ReferenceIdeal.Gen.facts
local instance : Cert.Pre_finite_queries.Facts := Cert.Proof.Precondition.facts

/-- The reference runs, keeps its arguments, and has no counter to leave. -/
theorem reference_frame : Cert.quiescent_ReferenceIdeal := fun m g _ =>
  (θ_run _ _ _).mono (fun r h => ⟨fun c => (h c).2, sem_eq_zero_of_no_sems (by decide) r.2⟩) (RefArray.run_total m g)

/-- From equal arguments with finite scores, the kernel's result array is the reference's. -/
theorem results_equal : Cert.algebraic_KernelIdeal_ReferenceIdeal_pre_finite_queries := by
  intro m g m' g' hpre hargs
  refine ⟨fun c => fun i => Model.total (KernelArray.a0 m c) (KernelArray.a1 m c) (KernelArray.a2 m c) (KernelArray.a3 m c)
    (KernelArray.a4 m c) (KernelArray.a5 m c) (KernelArray.a6 m c) (KernelArray.a7 m c) (i 0) (i 1), ?_, ?_⟩
  · refine (θ_run _ _ _).mono (fun _ h c => ⟨(h c).1.trans ?_, (h c).2⟩) (Cert.KernelIdeal.Value.run_blocks m g)
    obtain ⟨h0, h2, h4, h5⟩ := Precondition.finite _ _ _ _ _ _ _ _ (hpre c)
    exact KernelArray.final m c h0 h2 h4 h5
  · refine (θ_run _ _ _).mono (fun _ h c => ⟨(h c).1.trans ?_, (h c).2⟩) (RefArray.run_total m' g')
    obtain ⟨e0, e1, e2, e3, e4, e5, e6, e7⟩ := hargs c
    have d0 : RefArray.a0 (StableHlo.launchContents m' c) = KernelArray.a0 m c := e0
    have d1 : RefArray.a1 (StableHlo.launchContents m' c) = KernelArray.a1 m c := e1
    have d2 : RefArray.a2 (StableHlo.launchContents m' c) = KernelArray.a2 m c := e2
    have d3 : RefArray.a3 (StableHlo.launchContents m' c) = KernelArray.a3 m c := e3
    have d4 : RefArray.a4 (StableHlo.launchContents m' c) = KernelArray.a4 m c := e4
    have d5 : RefArray.a5 (StableHlo.launchContents m' c) = KernelArray.a5 m c := e5
    have d6 : RefArray.a6 (StableHlo.launchContents m' c) = KernelArray.a6 m c := e6
    have d7 : RefArray.a7 (StableHlo.launchContents m' c) = KernelArray.a7 m c := e7
    rw [d0, d1, d2, d3, d4, d5, d6, d7]
    rfl

/-- Every claim of the certificate. -/
theorem claim : Cert.Claim :=
  ⟨Cert.Kernel.Gen.facts, Cert.KernelIdeal.Gen.facts, Cert.ReferenceIdeal.Gen.facts, Cert.Proof.Precondition.facts,
    fun m g _ => Cert.Kernel.Gen.frame m g, fun m g _ => Cert.KernelIdeal.Gen.frame m g, fun m g _ => Cert.KernelIdeal.Gen.frame m g,
    reference_frame, fun m g _ => reference_frame m g trivial, trivial, results_equal⟩

end Cert.Proof

end
